-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x512 : Shape := ⟨3, ![16, 1024, 512]⟩
abbrev S512x256 : Shape := ⟨2, ![512, 256]⟩
abbrev S256 : Shape := ⟨1, ![256]⟩
abbrev S2x320x128 : Shape := ⟨3, ![2, 320, 128]⟩
abbrev S_ : Shape := ⟨0, ![]⟩

class Facts : Prop where
  bcast_S_S16x1024x512 : S_.BroadcastsInDim S16x1024x512 (![] : Fin 0 → Fin S16x1024x512.rank)
  bcast_S_S512x256 : S_.BroadcastsInDim S512x256 (![] : Fin 0 → Fin S512x256.rank)
  bcast_S_S256 : S_.BroadcastsInDim S256 (![] : Fin 0 → Fin S256.rank)
  bcast_S_S2x320x128 : S_.BroadcastsInDim S2x320x128 (![] : Fin 0 → Fin S2x320x128.rank)

variable [Facts]

def fn {F : FTy → Type} [FloatOps F] (main_arg0 : FVec F S16x1024x512 .f32) (main_arg1 : FVec F S512x256 .f32) (main_arg2 : FVec F S256 .f32) (main_arg3 : FVec F S2x320x128 .f32) : IVec S16x1024x512 1 × IVec S512x256 1 × IVec S256 1 × IVec S2x320x128 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S2x320x128 .f32 := Host.absf main_arg3
  let main_cst_2 : FVec F S_ .f32 := constant S_ .f32 0x7F800000#32
  let main_v10 : FVec F S2x320x128 .f32 := broadcastInDim S2x320x128 ![] bcast_S_S2x320x128 main_cst_2
  let main_v11 : IVec S2x320x128 1 := cmpf .olt main_v9 main_v10
  (main_v2, main_v5, main_v8, main_v11)
-- ==== Kernel.lean ====
abbrev S16x1024x512 : Shape := ⟨3, ![16, 1024, 512]⟩
abbrev S512x256 : Shape := ⟨2, ![512, 256]⟩
abbrev S256 : Shape := ⟨1, ![256]⟩
abbrev S2x320x128 : Shape := ⟨3, ![2, 320, 128]⟩
abbrev S256x1 : Shape := ⟨2, ![256, 1]⟩
abbrev S16x1024x256 : Shape := ⟨3, ![16, 1024, 256]⟩
abbrev S2x16x320x1024 : Shape := ⟨4, ![2, 16, 320, 1024]⟩
abbrev S16x2x320 : Shape := ⟨3, ![16, 2, 320]⟩
abbrev S1x1024x512 : Shape := ⟨3, ![1, 1024, 512]⟩
abbrev S1x1024x256 : Shape := ⟨3, ![1, 1024, 256]⟩
abbrev S2x1x320x1024 : Shape := ⟨4, ![2, 1, 320, 1024]⟩
abbrev S1x2x320 : Shape := ⟨3, ![1, 2, 320]⟩
abbrev S1024x512 : Shape := ⟨2, ![1024, 512]⟩
abbrev S256x1024 : Shape := ⟨2, ![256, 1024]⟩
abbrev S320x1024 : Shape := ⟨2, ![320, 1024]⟩
abbrev S1x1024 : Shape := ⟨2, ![1, 1024]⟩
abbrev S128x1024 : Shape := ⟨2, ![128, 1024]⟩
abbrev S1x320x128 : Shape := ⟨3, ![1, 320, 128]⟩
abbrev S320x128 : Shape := ⟨2, ![320, 128]⟩
abbrev S1024 : Shape := ⟨1, ![1024]⟩
abbrev S320 : Shape := ⟨1, ![320]⟩
abbrev S320x1 : Shape := ⟨2, ![320, 1]⟩
abbrev S1x1x320x1024 : Shape := ⟨4, ![1, 1, 320, 1024]⟩
abbrev S1024x128 : Shape := ⟨2, ![1024, 128]⟩
abbrev S1x1024x128 : Shape := ⟨3, ![1, 1024, 128]⟩
abbrev S1x320 : Shape := ⟨2, ![1, 320]⟩
abbrev S2x320 : Shape := ⟨2, ![2, 320]⟩
abbrev S1x1 : Shape := ⟨2, ![1, 1]⟩
abbrev S2 : Shape := ⟨1, ![2]⟩
abbrev S2x1 : Shape := ⟨2, ![2, 1]⟩
abbrev S1 : Shape := ⟨1, ![1]⟩
abbrev S2x16x1024x320 : Shape := ⟨4, ![2, 16, 1024, 320]⟩
abbrev S_ : Shape := ⟨0, ![]⟩

abbrev nBuf : Space → Nat
  | .hbm => 13
  | .vmem => 15
  | .smem => 0
  | _ => 0

abbrev bufTy : (tb : Table) → Fin (tcTables nBuf tb) → BufTy
  | .hbm, ⟨0, _⟩ => ⟨S16x1024x512, .f32⟩
  | .hbm, ⟨1, _⟩ => ⟨S512x256, .f32⟩
  | .hbm, ⟨2, _⟩ => ⟨S256, .f32⟩
  | .hbm, ⟨3, _⟩ => ⟨S2x320x128, .f32⟩
  | .hbm, ⟨4, _⟩ => ⟨S256x1, .f32⟩
  | .hbm, ⟨5, _⟩ => ⟨S16x1024x256, .f32⟩
  | .hbm, ⟨6, _⟩ => ⟨S2x16x320x1024, .f32⟩
  | .hbm, ⟨7, _⟩ => ⟨S2x16x320x1024, .f32⟩
  | .hbm, ⟨8, _⟩ => ⟨S16x2x320, .f32⟩
  | .hbm, ⟨9, _⟩ => ⟨S1x1, .f32⟩
  | .hbm, ⟨10, _⟩ => ⟨S2x16x1024x320, .f32⟩
  | .hbm, ⟨11, _⟩ => ⟨S2x16x1024x320, .f32⟩
  | .hbm, ⟨12, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S512x256, .f32⟩
  | .local _ .vmem, ⟨3, _⟩ => ⟨S256x1, .f32⟩
  | .local _ .vmem, ⟨4, _⟩ => ⟨S2x320x128, .f32⟩
  | .local _ .vmem, ⟨5, _⟩ => ⟨S1x1024x256, .f32⟩
  | .local _ .vmem, ⟨6, _⟩ => ⟨S1x1024x256, .f32⟩
  | .local _ .vmem, ⟨7, _⟩ => ⟨S2x1x320x1024, .f32⟩
  | .local _ .vmem, ⟨8, _⟩ => ⟨S2x1x320x1024, .f32⟩
  | .local _ .vmem, ⟨9, _⟩ => ⟨S2x1x320x1024, .f32⟩
  | .local _ .vmem, ⟨10, _⟩ => ⟨S2x1x320x1024, .f32⟩
  | .local _ .vmem, ⟨11, _⟩ => ⟨S1x2x320, .f32⟩
  | .local _ .vmem, ⟨12, _⟩ => ⟨S1x2x320, .f32⟩
  | .local _ .vmem, ⟨13, _⟩ => ⟨S16x2x320, .f32⟩
  | .local _ .vmem, ⟨14, _⟩ => ⟨S1x1, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg1_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem1_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

abbrev stage1_0 : Fin 1 → Memref sig .tc .vmem S16x2x320 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S16x1024x512 : Shape := ⟨3, ![16, 1024, 512]⟩
abbrev S512x256 : Shape := ⟨2, ![512, 256]⟩
abbrev S256 : Shape := ⟨1, ![256]⟩
abbrev S2x320x128 : Shape := ⟨3, ![2, 320, 128]⟩
abbrev S16x1024x256 : Shape := ⟨3, ![16, 1024, 256]⟩
abbrev S1x1x256 : Shape := ⟨3, ![1, 1, 256]⟩
abbrev S16x1024x2x128 : Shape := ⟨4, ![16, 1024, 2, 128]⟩
abbrev S16x1024x1x128 : Shape := ⟨4, ![16, 1024, 1, 128]⟩
abbrev S16x1024x128 : Shape := ⟨3, ![16, 1024, 128]⟩
abbrev S1x320x128 : Shape := ⟨3, ![1, 320, 128]⟩
abbrev S320x128 : Shape := ⟨2, ![320, 128]⟩
abbrev S1x1x320x128 : Shape := ⟨4, ![1, 1, 320, 128]⟩
abbrev S16x1024x320x128 : Shape := ⟨4, ![16, 1024, 320, 128]⟩
abbrev S_ : Shape := ⟨0, ![]⟩
abbrev S16x1024x320 : Shape := ⟨3, ![16, 1024, 320]⟩
abbrev S16x1024 : Shape := ⟨2, ![16, 1024]⟩
abbrev S16x1024x1 : Shape := ⟨3, ![16, 1024, 1]⟩
abbrev S1x1x320 : Shape := ⟨3, ![1, 1, 320]⟩
abbrev S1x16x1024x320 : Shape := ⟨4, ![1, 16, 1024, 320]⟩
abbrev S2x16x1024x320 : Shape := ⟨4, ![2, 16, 1024, 320]⟩
abbrev S2x320 : Shape := ⟨2, ![2, 320]⟩
abbrev S2 : Shape := ⟨1, ![2]⟩

abbrev nBuf : Space → Nat
  | .hbm => 90
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S512x256, .f32⟩
  | .hbm, ⟨2, _⟩ => ⟨S256, .f32⟩
  | .hbm, ⟨3, _⟩ => ⟨S2x320x128, .f32⟩
  | .hbm, ⟨4, _⟩ => ⟨S16x1024x256, .f32⟩
  | .hbm, ⟨5, _⟩ => ⟨S1x1x256, .f32⟩
  | .hbm, ⟨6, _⟩ => ⟨S16x1024x256, .f32⟩
  | .hbm, ⟨7, _⟩ => ⟨S16x1024x256, .f32⟩
  | .hbm, ⟨8, _⟩ => ⟨S16x1024x2x128, .f32⟩
  | .hbm, ⟨9, _⟩ => ⟨S16x1024x1x128, .f32⟩
  | .hbm, ⟨10, _⟩ => ⟨S16x1024x128, .f32⟩
  | .hbm, ⟨11, _⟩ => ⟨S1x320x128, .f32⟩
  | .hbm, ⟨12, _⟩ => ⟨S320x128, .f32⟩
  | .hbm, ⟨13, _⟩ => ⟨S16x1024x1x128, .f32⟩
  | .hbm, ⟨14, _⟩ => ⟨S1x1x320x128, .f32⟩
  | .hbm, ⟨15, _⟩ => ⟨S16x1024x320x128, .f32⟩
  | .hbm, ⟨16, _⟩ => ⟨S16x1024x320x128, .f32⟩
  | .hbm, ⟨17, _⟩ => ⟨S16x1024x320x128, .f32⟩
  | .hbm, ⟨18, _⟩ => ⟨S16x1024x320x128, .f32⟩
  | .hbm, ⟨19, _⟩ => ⟨S_, .f32⟩
  | .hbm, ⟨20, _⟩ => ⟨S16x1024x320, .f32⟩
  | .hbm, ⟨21, _⟩ => ⟨S16x1024x320, .i32⟩
  | .hbm, ⟨22, _⟩ => ⟨S_, .f32⟩
  | .hbm, ⟨23, _⟩ => ⟨S_, .i32⟩
  | .hbm, ⟨24, _⟩ => ⟨S16x1024, .f32⟩
  | .hbm, ⟨25, _⟩ => ⟨S16x1024, .i32⟩
  | .hbm, ⟨26, _⟩ => ⟨S16x1024x1, .i32⟩
  | .hbm, ⟨27, _⟩ => ⟨S1x1x320, .i32⟩
  | .hbm, ⟨28, _⟩ => ⟨S16x1024x320, .i32⟩
  | .hbm, ⟨29, _⟩ => ⟨S16x1024x320, .i32⟩
  | .hbm, ⟨30, _⟩ => ⟨S16x1024x320, .i1⟩
  | .hbm, ⟨31, _⟩ => ⟨S16x1024x320, .f32⟩
  | .hbm, ⟨32, _⟩ => ⟨S16x1024x128, .f32⟩
  | .hbm, ⟨33, _⟩ => ⟨S16x1024x1x128, .f32⟩
  | .hbm, ⟨34, _⟩ => ⟨S16x1024x128, .f32⟩
  | .hbm, ⟨35, _⟩ => ⟨S1x320x128, .f32⟩
  | .hbm, ⟨36, _⟩ => ⟨S320x128, .f32⟩
  | .hbm, ⟨37, _⟩ => ⟨S16x1024x1x128, .f32⟩
  | .hbm, ⟨38, _⟩ => ⟨S1x1x320x128, .f32⟩
  | .hbm, ⟨39, _⟩ => ⟨S16x1024x320x128, .f32⟩
  | .hbm, ⟨40, _⟩ => ⟨S16x1024x320x128, .f32⟩
  | .hbm, ⟨41, _⟩ => ⟨S16x1024x320x128, .f32⟩
  | .hbm, ⟨42, _⟩ => ⟨S16x1024x320x128, .f32⟩
  | .hbm, ⟨43, _⟩ => ⟨S_, .f32⟩
  | .hbm, ⟨44, _⟩ => ⟨S16x1024x320, .f32⟩
  | .hbm, ⟨45, _⟩ => ⟨S16x1024x320, .i32⟩
  | .hbm, ⟨46, _⟩ => ⟨S_, .f32⟩
  | .hbm, ⟨47, _⟩ => ⟨S_, .i32⟩
  | .hbm, ⟨48, _⟩ => ⟨S16x1024, .f32⟩
  | .hbm, ⟨49, _⟩ => ⟨S16x1024, .i32⟩
  | .hbm, ⟨50, _⟩ => ⟨S16x1024x1, .i32⟩
  | .hbm, ⟨51, _⟩ => ⟨S1x1x320, .i32⟩
  | .hbm, ⟨52, _⟩ => ⟨S16x1024x320, .i32⟩
  | .hbm, ⟨53, _⟩ => ⟨S16x1024x320, .i32⟩
  | .hbm, ⟨54, _⟩ => ⟨S16x1024x320, .i1⟩
  | .hbm, ⟨55, _⟩ => ⟨S16x1024x320, .f32⟩
  | .hbm, ⟨56, _⟩ => ⟨S16x1024x128, .f32⟩
  | .hbm, ⟨57, _⟩ => ⟨S1x16x1024x320, .f32⟩
  | .hbm, ⟨58, _⟩ => ⟨S1x16x1024x320, .f32⟩
  | .hbm, ⟨59, _⟩ => ⟨S2x16x1024x320, .f32⟩
  | .hbm, ⟨60, _⟩ => ⟨S1x16x1024x320, .f32⟩
  | .hbm, ⟨61, _⟩ => ⟨S1x16x1024x320, .f32⟩
  | .hbm, ⟨62, _⟩ => ⟨S2x16x1024x320, .f32⟩
  | .hbm, ⟨63, _⟩ => ⟨S16x1024x256, .f32⟩
  | .hbm, ⟨64, _⟩ => ⟨S_, .f32⟩
  | .hbm, ⟨65, _⟩ => ⟨S2x320, .f32⟩
  | .hbm, ⟨66, _⟩ => ⟨S_, .f32⟩
  | .hbm, ⟨67, _⟩ => ⟨S2x320, .f32⟩
  | .hbm, ⟨68, _⟩ => ⟨S2x320, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2x320, .f32⟩
  | .hbm, ⟨73, _⟩ => ⟨S2x320, .f32⟩
  | .hbm, ⟨74, _⟩ => ⟨S_, .f32⟩
  | .hbm, ⟨75, _⟩ => ⟨S2x320, .f32⟩
  | .hbm, ⟨76, _⟩ => ⟨S2x320, .f32⟩
  | .hbm, ⟨77, _⟩ => ⟨S_, .f32⟩
  | .hbm, ⟨78, _⟩ => ⟨S2x320, .f32⟩
  | .hbm, ⟨79, _⟩ => ⟨S2x320, .f32⟩
  | .hbm, ⟨80, _⟩ => ⟨S2x320, .f32⟩
  | .hbm, ⟨81, _⟩ => ⟨S2x320, .f32⟩
  | .hbm, ⟨82, _⟩ => ⟨S_, .f32⟩
  | .hbm, ⟨83, _⟩ => ⟨S2, .f32⟩
  | .hbm, ⟨84, _⟩ => ⟨S2, .f32⟩
  | .hbm, ⟨85, _⟩ => ⟨S2, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_call2_v0 : Ref sig .tc := ⟨.hbm, 45, rfl⟩
abbrev main_call2_cst : Ref sig .tc := ⟨.hbm, 46, rfl⟩
abbrev main_call2_c : Ref sig .tc := ⟨.hbm, 47, rfl⟩
abbrev main_call2_v1_0 : Ref sig .tc := ⟨.hbm, 48, rfl⟩
abbrev main_v30 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_cst_2 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_cst_4 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_v51 : Ref sig .tc := ⟨.hbm, 87, rfl⟩
abbrev main_cst_8 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Proof.KernelRun.lean ====
/- The run of the kernel, at any float values, with its RESULTS in the post: the launch is the generated frame's
   (Gen/KernelIdeal/Frame.lean `segs`), read at the four result buffers as well as at the arguments. -/
module

public import proofs.«01_k».proof.Proof.Gen.KernelIdeal.Frame

@[expose] public section

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- Every execution of the kernel ends, with each of the four results at the last boundary's contents `W4`
    and the four arguments as launched. -/
theorem run : θ_run defs (onTc (τ := τ) (main (F := F))) ⟨m, fun _ => 0, ρ⟩ (fun r => ∀ c : Dev nD,
      r.2.mem ((c.tc : Thread nD τ).loc main_v1_0) = W4 m ρ c (Proc.devRef .tc main_v1_0)
      ∧ r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v1_0 (by decide)), h c _ (mem_uc main_v3 (by decide)),
       h c _ (mem_uc main_v4 (by decide)), h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.ReferenceTerm.lean ====
/- What the reference computes, as a composition of named array functions: the hidden rows, a group's distances, the
   one-hot encodings of a distance array's rows, a group's quantized rows, and the perplexity of the encodings. -/
module

public import proofs.«01_k».proof.Proof.Gen.ReferenceIdeal

@[expose] public section

noncomputable section

namespace Cert.ReferenceIdeal.Hand

open Cert.ReferenceIdeal Cert.ReferenceIdeal.Gen Idealize.ShloMosaic

variable {F : FTy → Type} [FloatOps F]

/-- Two arrays of one group each, stacked along a new leading axis. -/
def stack (a b : FVec F S1x16x1024x320 .f32) : FVec F S2x16x1024x320 .f32 :=
  concatenate S2x16x1024x320 0 [⟨S1x16x1024x320, a⟩, ⟨S1x16x1024x320, b⟩] concatenates_S1x16x1024x320_S1x16x1024x320_S2x16x1024x320_d0

/-- Two groups' rows, joined along the last axis. -/
def join (a b : FVec F S16x1024x128 .f32) : FVec F S16x1024x256 .f32 :=
  concatenate S16x1024x256 2 [⟨S16x1024x128, a⟩, ⟨S16x1024x128, b⟩] concatenates_S16x1024x128_S16x1024x128_S16x1024x256_d2

/-- The hidden rows `x W + b`, the last axis split in two groups of 128. -/
def hidden (x : FVec F S16x1024x512 .f32) (W : FVec F S512x256 .f32) (b : FVec F S256 .f32) : FVec F S16x1024x2x128 .f32 :=
  shapeCast S16x1024x2x128
    (addf (Host.dotGeneral dot_S16x1024x512_S512x256_S16x1024x256_2_0_01_1_n_n none x W)
      (broadcastInDim S16x1024x256 ![0, 1, 2] bcast_S1x1x256_S16x1024x256_0_1_2 (broadcastInDim S1x1x256 ![2] bcast_S256_S1x1x256_2 b)))
    shapeCasts_S16x1024x256_S16x1024x2x128

/-- The first group's rows. -/
def rows0 (h : FVec F S16x1024x2x128 .f32) : FVec F S16x1024x128 .f32 :=
  shapeCast S16x1024x128 (extractStridedSlice S16x1024x1x128 ![0, 0, 0, 0] h slices_S16x1024x2x128_S16x1024x1x128_0_0_0_0)
    shapeCasts_S16x1024x1x128_S16x1024x128

/-- The second group's rows. -/
def rows1 (h : FVec F S16x1024x2x128 .f32) : FVec F S16x1024x128 .f32 :=
  shapeCast S16x1024x128 (extractStridedSlice S16x1024x1x128 ![0, 0, 1, 0] h slices_S16x1024x2x128_S16x1024x1x128_0_0_1_0)
    shapeCasts_S16x1024x1x128_S16x1024x128

/-- The first group's codevectors. -/
def codes0 (cv : FVec F S2x320x128 .f32) : FVec F S320x128 .f32 :=
  shapeCast S320x128 (extractStridedSlice S1x320x128 ![0, 0, 0] cv slices_S2x320x128_S1x320x128_0_0_0) shapeCasts_S1x320x128_S320x128

/-- The second group's codevectors. -/
def codes1 (cv : FVec F S2x320x128 .f32) : FVec F S320x128 .f32 :=
  shapeCast S320x128 (extractStridedSlice S1x320x128 ![1, 0, 0] cv slices_S2x320x128_S1x320x128_1_0_0) shapeCasts_S1x320x128_S320x128

/-- Every row less every codevector. -/
def diff (g : FVec F S16x1024x128 .f32) (c : FVec F S320x128 .f32) : FVec F S16x1024x320x128 .f32 :=
  subf
    (broadcastInDim S16x1024x320x128 ![0, 1, 2, 3] bcast_S16x1024x1x128_S16x1024x320x128_0_1_2_3
      (broadcastInDim S16x1024x1x128 ![0, 1, 3] bcast_S16x1024x128_S16x1024x1x128_0_1_3 g))
    (broadcastInDim S16x1024x320x128 ![0, 1, 2, 3] bcast_S1x1x320x128_S16x1024x320x128_0_1_2_3
      (broadcastInDim S1x1x320x128 ![2, 3] bcast_S320x128_S1x1x320x128_2_3 c))

/-- Every row's squared distance to every codevector. -/
def dist (g : FVec F S16x1024x128 .f32) (c : FVec F S320x128 .f32) : FVec F S16x1024x320 .f32 :=
  Host.reduceAdd (mulf (diff g c) (diff g c)) (constant S_ .f32 0x00000000#32) reducesTo_S16x1024x320x128_S16x1024x320_d3 h_S_

/-- The indices an arg-reduction returns, without its values. -/
def indices {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) : IVec t 32 :=
  fun j => (Host.argReduce f x y ix iy h hu j).2

/-- The index of each row's least distance. -/
def argmin (d : FVec F S16x1024x320 .f32) : IVec S16x1024 32 :=
  indices reducer_argmin_f32_i32 d (iotaInDim S16x1024x320 32 2) (constant S_ .f32 0x7F800000#32) (constantI S_ 32 0#32)
    reducesTo_S16x1024x320_S16x1024_d2 h_S_

/-- The one-hot rows of an index array. -/
def oneHot (x : IVec S16x1024 32) : FVec F S16x1024x320 .f32 :=
  uitofp .f32 (cmpi .eq
    (broadcastInDim S16x1024x320 ![0, 1, 2] bcast_S16x1024x1_S16x1024x320_0_1_2 (broadcastInDim S16x1024x1 ![0, 1] bcast_S16x1024_S16x1024x1_0_1 x))
    (broadcastInDim S16x1024x320 ![0, 1, 2] bcast_S1x1x320_S16x1024x320_0_1_2 (iotaInDim S1x1x320 32 2)))

/-- The encodings of a distance array: one-hot at each row's least distance. -/
def enc (d : FVec F S16x1024x320 .f32) : FVec F S16x1024x320 .f32 := oneHot (argmin d)

/-- The quantized rows of one group: its encodings times its codevectors. -/
def quant (e : FVec F S16x1024x320 .f32) (c : FVec F S320x128 .f32) : FVec F S16x1024x128 .f32 :=
  Host.dotGeneral dot_S16x1024x320_S320x128_S16x1024x128_2_0_01_1_n_n none e c

/-- One group's array with a leading axis of one. -/
def lead (d : FVec F S16x1024x320 .f32) : FVec F S1x16x1024x320 .f32 :=
  broadcastInDim S1x16x1024x320 ![1, 2, 3] bcast_S16x1024x320_S1x16x1024x320_1_2_3 d

/-- A word at every entry of a 2 × 320 array. -/
def everywhere (w : BitVec 32) : FVec F S2x320 .f32 := broadcastInDim S2x320 ![] bcast_S_S2x320 (constant S_ .f32 w)

/-- The mean of the encodings over batch and position, clipped to [1e-10, 1]. -/
def probs (e : FVec F S2x16x1024x320 .f32) : FVec F S2x320 .f32 :=
  minimumf (everywhere 0x3F800000#32) (maximumf (everywhere 0x2EDBE6FF#32)
    (Host.divf (Host.reduceAdd e (constant S_ .f32 0x00000000#32) reducesTo_S2x16x1024x320_S2x320_d1_2 h_S_) (everywhere 0x46800000#32)))

/-- The perplexity of probabilities: each group's exponential of its entropy, averaged over the two groups. -/
def perplexity (p : FVec F S2x320 .f32) : FVec F S_ .f32 :=
  Host.divf (Host.reduceAdd (Host.exp (Host.negf (Host.reduceAdd (mulf p (Host.log (addf p (everywhere 0x2EDBE6FF#32))))
      (constant S_ .f32 0x00000000#32) reducesTo_S2x320_S2_d1 h_S_)))
    (constant S_ .f32 0x00000000#32) reducesTo_S2_S_d0 h_S_) (constant S_ .f32 0x40000000#32)

section Results
variable (x : FVec F S16x1024x512 .f32) (W : FVec F S512x256 .f32) (b : FVec F S256 .f32) (cv : FVec F S2x320x128 .f32)

/-- The first group's distances, from the arguments. -/
def dist0 : FVec F S16x1024x320 .f32 := dist (rows0 (hidden x W b)) (codes0 cv)
/-- The second group's distances, from the arguments. -/
def dist1 : FVec F S16x1024x320 .f32 := dist (rows1 (hidden x W b)) (codes1 cv)

/-- The quantized features. -/
def outQuant : FVec F S16x1024x256 .f32 :=
  join (quant (enc (dist0 x W b cv)) (codes0 cv)) (quant (enc (dist1 x W b cv)) (codes1 cv))
/-- The encodings. -/
def outEnc : FVec F S2x16x1024x320 .f32 := stack (lead (enc (dist0 x W b cv))) (lead (enc (dist1 x W b cv)))
/-- The distances. -/
def outDist : FVec F S2x16x1024x320 .f32 := stack (lead (dist0 x W b cv)) (lead (dist1 x W b cv))
/-- The mean perplexity. -/
def outPerp : FVec F S_ .f32 := perplexity (probs (outEnc x W b cv))
end Results

end Cert.ReferenceIdeal.Hand

end
-- ==== Proof.ReferenceRun.lean ====
/- The reference's run: @main as the list of its 86 host operations, and what every execution leaves at the four results,
   named by Proof/ReferenceTerm.lean's array functions of the arguments. -/
module

public import proofs.«01_k».proof.Proof.ReferenceTerm
public import Idealize.ShloMosaic.Lib.StableHlo.Run
public import Idealize.ShloMosaic.Lib.StableHlo.RunRead
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 86 operations in order, a called function's standing in its call's place. -/
abbrev ops : List (HloOp τ sig (Elt F)) :=
  [ binary main_arg0 main_arg1 main_v0 ((fun l r => Host.dotGeneral dot_S16x1024x512_S512x256_S16x1024x256_2_0_01_1_n_n none l r) : (⟨S16x1024x512, .f32⟩ : BufTy).Contents (Elt F) → (⟨S512x256, .f32⟩ : BufTy).Contents (Elt F) → (⟨S16x1024x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v0 main_v2 main_v3 (addf : (⟨S16x1024x256, .f32⟩ : BufTy).Contents (Elt F) → (⟨S16x1024x256, .f32⟩ : BufTy).Contents (Elt F) → (⟨S16x1024x256, .f32⟩ : BufTy).Contents (Elt F)),
    reshape main_v3 main_v4 (rfl : (.f32 : EltTy) = .f32) shapeCasts_S16x1024x256_S16x1024x2x128,
    unary main_v4 main_v5 ((extractStridedSlice S16x1024x1x128 ![0, 0, 0, 0] · slices_S16x1024x2x128_S16x1024x1x128_0_0_0_0) : (⟨S16x1024x2x128, .f32⟩ : BufTy).Contents (Elt F) → (⟨S16x1024x1x128, .f32⟩ : BufTy).Contents (Elt F)),
    reshape main_v5 main_v6 (rfl : (.f32 : EltTy) = .f32) shapeCasts_S16x1024x1x128_S16x1024x128,
    unary main_arg3 main_v7 ((extractStridedSlice S1x320x128 ![0, 0, 0] · slices_S2x320x128_S1x320x128_0_0_0) : (⟨S2x320x128, .f32⟩ : BufTy).Contents (Elt F) → (⟨S1x320x128, .f32⟩ : BufTy).Contents (Elt F)),
    reshape main_v7 main_v8 (rfl : (.f32 : EltTy) = .f32) shapeCasts_S1x320x128_S320x128,
    unary main_v6 main_v9 (broadcastInDim S16x1024x1x128 ![0, 1, 3] bcast_S16x1024x128_S16x1024x1x128_0_1_3 : (⟨S16x1024x128, .f32⟩ : BufTy).Contents (Elt F) → (⟨S16x1024x1x128, .f32⟩ : BufTy).Contents (Elt F)),
    unary main_v8 main_v10 (broadcastInDim S1x1x320x128 ![2, 3] bcast_S320x128_S1x1x320x128_2_3 : (⟨S320x128, .f32⟩ : BufTy).Contents (Elt F) → (⟨S1x1x320x128, .f32⟩ : BufTy).Contents (Elt F)),
    unary main_v9 main_v11 (broadcastInDim S16x1024x320x128 ![0, 1, 2, 3] bcast_S16x1024x1x128_S16x1024x320x128_0_1_2_3 : (⟨S16x1024x1x128, .f32⟩ : BufTy).Contents (Elt F) → (⟨S16x1024x320x128, .f32⟩ : BufTy).Contents (Elt F)),
    unary main_v10 main_v12 (broadcastInDim S16x1024x320x128 ![0, 1, 2, 3] bcast_S1x1x320x128_S16x1024x320x128_0_1_2_3 : (⟨S1x1x320x128, .f32⟩ : BufTy).Contents (Elt F) → (⟨S16x1024x320x128, .f32⟩ : BufTy).Contents (Elt F)),
    binary main_v11 main_v12 main_v13 (subf : (⟨S16x1024x320x128, .f32⟩ : BufTy).Contents (Elt F) → (⟨S16x1024x320x128, .f32⟩ : BufTy).Contents (Elt F) → (⟨S16x1024x320x128, .f32⟩ : BufTy).Contents (Elt F)),
    binary main_v13 main_v13 main_v14 (mulf : (⟨S16x1024x320x128, .f32⟩ : BufTy).Contents (Elt F) → (⟨S16x1024x320x128, .f32⟩ : BufTy).Contents (Elt F) → (⟨S16x1024x320x128, .f32⟩ : BufTy).Contents (Elt F)),
    nullary main_cst (constant S_ .f32 0x00000000#32),
    binary main_v14 main_cst main_v15 ((fun x v => Host.reduceAdd x v reducesTo_S16x1024x320x128_S16x1024x320_d3 h_S_) : (⟨S16x1024x320x128, .f32⟩ : BufTy).Contents (Elt F) → (⟨S_, .f32⟩ : BufTy).Contents (Elt F) → (⟨S16x1024x320, .f32⟩ : BufTy).Contents (Elt F)),
    TRef.nullary (TRef.of (T := ⟨S16x1024x320, .i32⟩) main_call0_v0) (iotaInDim S16x1024x320 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16x1024x320, .f32⟩) main_v15) (TRef.of (T := ⟨S16x1024x320, .i32⟩) main_call0_v0) (TRef.of (T := ⟨S_, .f32⟩) main_call0_cst) (TRef.of (T := ⟨S_, .i32⟩) main_call0_c) (TRef.of (T := ⟨S16x1024, .f32⟩) main_call0_v1_0) (fun x y u v j => (Host.argReduce reducer_argmin_f32_i32 x y u v reducesTo_S16x1024x320_S16x1024_d2 h_S_ j).1),
    TRef.quaternary (TRef.of (T := ⟨S16x1024x320, .f32⟩) main_v15) (TRef.of (T := ⟨S16x1024x320, .i32⟩) main_call0_v0) (TRef.of (T := ⟨S_, .f32⟩) main_call0_cst) (TRef.of (T := ⟨S_, .i32⟩) main_call0_c) (TRef.of (T := ⟨S16x1024, .i32⟩) main_v16) (fun x y u v j => (Host.argReduce reducer_argmin_f32_i32 x y u v reducesTo_S16x1024x320_S16x1024_d2 h_S_ j).2),
    TRef.unary (TRef.of (T := ⟨S16x1024, .i32⟩) main_v16) (TRef.of (T := ⟨S16x1024x1, .i32⟩) main_call1_v0) (broadcastInDim S16x1024x1 ![0, 1] bcast_S16x1024_S16x1024x1_0_1),
    TRef.nullary (TRef.of (T := ⟨S1x1x320, .i32⟩) main_call1_v1) (iotaInDim S1x1x320 32 2),
    TRef.unary (TRef.of (T := ⟨S16x1024x1, .i32⟩) main_call1_v0) (TRef.of (T := ⟨S16x1024x320, .i32⟩) main_call1_v2) (broadcastInDim S16x1024x320 ![0, 1, 2] bcast_S16x1024x1_S16x1024x320_0_1_2),
    TRef.unary (TRef.of (T := ⟨S1x1x320, .i32⟩) main_call1_v1) (TRef.of (T := ⟨S16x1024x320, .i32⟩) main_call1_v3) (broadcastInDim S16x1024x320 ![0, 1, 2] bcast_S1x1x320_S16x1024x320_0_1_2),
    TRef.binary (TRef.of (T := ⟨S16x1024x320, .i32⟩) main_call1_v2) (TRef.of (T := ⟨S16x1024x320, .i32⟩) main_call1_v3) (TRef.of (T := ⟨S16x1024x320, .i1⟩) main_call1_v4) (cmpi .eq),
    TRef.unary (TRef.of (T := ⟨S16x1024x320, .i1⟩) main_call1_v4) (TRef.of (T := ⟨S16x1024x320, .f32⟩) main_v17) (uitofp .f32),
    binary main_v17 main_v8 main_v18 ((fun l r => Host.dotGeneral dot_S16x1024x320_S320x128_S16x1024x128_2_0_01_1_n_n none l r) : (⟨S16x1024x320, .f32⟩ : BufTy).Contents (Elt F) → (⟨S320x128, .f32⟩ : BufTy).Contents (Elt F) → (⟨S16x1024x128, .f32⟩ : BufTy).Contents (Elt F)),
    unary main_v4 main_v19 ((extractStridedSlice S16x1024x1x128 ![0, 0, 1, 0] · slices_S16x1024x2x128_S16x1024x1x128_0_0_1_0) : (⟨S16x1024x2x128, .f32⟩ : BufTy).Contents (Elt F) → (⟨S16x1024x1x128, .f32⟩ : BufTy).Contents (Elt F)),
    reshape main_v19 main_v20 (rfl : (.f32 : EltTy) = .f32) shapeCasts_S16x1024x1x128_S16x1024x128,
    unary main_arg3 main_v21 ((extractStridedSlice S1x320x128 ![1, 0, 0] · slices_S2x320x128_S1x320x128_1_0_0) : (⟨S2x320x128, .f32⟩ : BufTy).Contents (Elt F) → (⟨S1x320x128, .f32⟩ : BufTy).Contents (Elt F)),
    reshape main_v21 main_v22 (rfl : (.f32 : EltTy) = .f32) shapeCasts_S1x320x128_S320x128,
    unary main_v20 main_v23 (broadcastInDim S16x1024x1x128 ![0, 1, 3] bcast_S16x1024x128_S16x1024x1x128_0_1_3 : (⟨S16x1024x128, .f32⟩ : BufTy).Contents (Elt F) → (⟨S16x1024x1x128, .f32⟩ : BufTy).Contents (Elt F)),
    unary main_v22 main_v24 (broadcastInDim S1x1x320x128 ![2, 3] bcast_S320x128_S1x1x320x128_2_3 : (⟨S320x128, .f32⟩ : BufTy).Contents (Elt F) → (⟨S1x1x320x128, .f32⟩ : BufTy).Contents (Elt F)),
    unary main_v23 main_v25 (broadcastInDim S16x1024x320x128 ![0, 1, 2, 3] bcast_S16x1024x1x128_S16x1024x320x128_0_1_2_3 : (⟨S16x1024x1x128, .f32⟩ : BufTy).Contents (Elt F) → (⟨S16x1024x320x128, .f32⟩ : BufTy).Contents (Elt F)),
    unary main_v24 main_v26 (broadcastInDim S16x1024x320x128 ![0, 1, 2, 3] bcast_S1x1x320x128_S16x1024x320x128_0_1_2_3 : (⟨S1x1x320x128, .f32⟩ : BufTy).Contents (Elt F) → (⟨S16x1024x320x128, .f32⟩ : BufTy).Contents (Elt F)),
    binary main_v25 main_v26 main_v27 (subf : (⟨S16x1024x320x128, .f32⟩ : BufTy).Contents (Elt F) → (⟨S16x1024x320x128, .f32⟩ : BufTy).Contents (Elt F) → (⟨S16x1024x320x128, .f32⟩ : BufTy).Contents (Elt F)),
    binary main_v27 main_v27 main_v28 (mulf : (⟨S16x1024x320x128, .f32⟩ : BufTy).Contents (Elt F) → (⟨S16x1024x320x128, .f32⟩ : BufTy).Contents (Elt F) → (⟨S16x1024x320x128, .f32⟩ : BufTy).Contents (Elt F)),
    nullary main_cst_0 (constant S_ .f32 0x00000000#32),
    binary main_v28 main_cst_0 main_v29 ((fun x v => Host.reduceAdd x v reducesTo_S16x1024x320x128_S16x1024x320_d3 h_S_) : (⟨S16x1024x320x128, .f32⟩ : BufTy).Contents (Elt F) → (⟨S_, .f32⟩ : BufTy).Contents (Elt F) → (⟨S16x1024x320, .f32⟩ : BufTy).Contents (Elt F)),
    TRef.nullary (TRef.of (T := ⟨S16x1024x320, .i32⟩) main_call2_v0) (iotaInDim S16x1024x320 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16x1024x320, .f32⟩) main_v29) (TRef.of (T := ⟨S16x1024x320, .i32⟩) main_call2_v0) (TRef.of (T := ⟨S_, .f32⟩) main_call2_cst) (TRef.of (T := ⟨S_, .i32⟩) main_call2_c) (TRef.of (T := ⟨S16x1024, .f32⟩) main_call2_v1_0) (fun x y u v j => (Host.argReduce reducer_argmin_f32_i32 x y u v reducesTo_S16x1024x320_S16x1024_d2 h_S_ j).1),
    TRef.quaternary (TRef.of (T := ⟨S16x1024x320, .f32⟩) main_v29) (TRef.of (T := ⟨S16x1024x320, .i32⟩) main_call2_v0) (TRef.of (T := ⟨S_, .f32⟩) main_call2_cst) (TRef.of (T := ⟨S_, .i32⟩) main_call2_c) (TRef.of (T := ⟨S16x1024, .i32⟩) main_v30) (fun x y u v j => (Host.argReduce reducer_argmin_f32_i32 x y u v reducesTo_S16x1024x320_S16x1024_d2 h_S_ j).2),
    TRef.unary (TRef.of (T := ⟨S16x1024, .i32⟩) main_v30) (TRef.of (T := ⟨S16x1024x1, .i32⟩) main_call3_v0) (broadcastInDim S16x1024x1 ![0, 1] bcast_S16x1024_S16x1024x1_0_1),
    TRef.nullary (TRef.of (T := ⟨S1x1x320, .i32⟩) main_call3_v1) (iotaInDim S1x1x320 32 2),
    TRef.unary (TRef.of (T := ⟨S16x1024x1, .i32⟩) main_call3_v0) (TRef.of (T := ⟨S16x1024x320, .i32⟩) main_call3_v2) (broadcastInDim S16x1024x320 ![0, 1, 2] bcast_S16x1024x1_S16x1024x320_0_1_2),
    TRef.unary (TRef.of (T := ⟨S1x1x320, .i32⟩) main_call3_v1) (TRef.of (T := ⟨S16x1024x320, .i32⟩) main_call3_v3) (broadcastInDim S16x1024x320 ![0, 1, 2] bcast_S1x1x320_S16x1024x320_0_1_2),
    TRef.binary (TRef.of (T := ⟨S16x1024x320, .i32⟩) main_call3_v2) (TRef.of (T := ⟨S16x1024x320, .i32⟩) main_call3_v3) (TRef.of (T := ⟨S16x1024x320, .i1⟩) main_call3_v4) (cmpi .eq),
    TRef.unary (TRef.of (T := ⟨S16x1024x320, .i1⟩) main_call3_v4) (TRef.of (T := ⟨S16x1024x320, .f32⟩) main_v31) (uitofp .f32),
    binary main_v31 main_v22 main_v32 ((fun l r => Host.dotGeneral dot_S16x1024x320_S320x128_S16x1024x128_2_0_01_1_n_n none l r) : (⟨S16x1024x320, .f32⟩ : BufTy).Contents (Elt F) → (⟨S320x128, .f32⟩ : BufTy).Contents (Elt F) → (⟨S16x1024x128, .f32⟩ : BufTy).Contents (Elt F)),
    unary main_v15 main_v33 (broadcastInDim S1x16x1024x320 ![1, 2, 3] bcast_S16x1024x320_S1x16x1024x320_1_2_3 : (⟨S16x1024x320, .f32⟩ : BufTy).Contents (Elt F) → (⟨S1x16x1024x320, .f32⟩ : BufTy).Contents (Elt F)),
    unary main_v29 main_v34 (broadcastInDim S1x16x1024x320 ![1, 2, 3] bcast_S16x1024x320_S1x16x1024x320_1_2_3 : (⟨S16x1024x320, .f32⟩ : BufTy).Contents (Elt F) → (⟨S1x16x1024x320, .f32⟩ : BufTy).Contents (Elt F)),
    binary main_v33 main_v34 main_v35 (stack (F := F)),
    unary main_v17 main_v36 (broadcastInDim S1x16x1024x320 ![1, 2, 3] bcast_S16x1024x320_S1x16x1024x320_1_2_3 : (⟨S16x1024x320, .f32⟩ : BufTy).Contents (Elt F) → (⟨S1x16x1024x320, .f32⟩ : BufTy).Contents (Elt F)),
    unary main_v31 main_v37 (broadcastInDim S1x16x1024x320 ![1, 2, 3] bcast_S16x1024x320_S1x16x1024x320_1_2_3 : (⟨S16x1024x320, .f32⟩ : BufTy).Contents (Elt F) → (⟨S1x16x1024x320, .f32⟩ : BufTy).Contents (Elt F)),
    binary main_v36 main_v37 main_v38 (stack (F := F)),
    binary main_v18 main_v32 main_v39 (join (F := F)),
    nullary main_cst_1 (constant S_ .f32 0x00000000#32),
    binary main_v38 main_cst_1 main_v40 ((fun x v => Host.reduceAdd x v reducesTo_S2x16x1024x320_S2x320_d1_2 h_S_) : (⟨S2x16x1024x320, .f32⟩ : BufTy).Contents (Elt F) → (⟨S_, .f32⟩ : BufTy).Contents (Elt F) → (⟨S2x320, .f32⟩ : BufTy).Contents (Elt F)),
    nullary main_cst_2 (constant S_ .f32 0x46800000#32),
    unary main_cst_2 main_v41 (broadcastInDim S2x320 ![] bcast_S_S2x320 : (⟨S_, .f32⟩ : BufTy).Contents (Elt F) → (⟨S2x320, .f32⟩ : BufTy).Contents (Elt F)),
    binary main_v40 main_v41 main_v42 (Host.divf : (⟨S2x320, .f32⟩ : BufTy).Contents (Elt F) → (⟨S2x320, .f32⟩ : BufTy).Contents (Elt F) → (⟨S2x320, .f32⟩ : BufTy).Contents (Elt F)),
    nullary main_cst_3 (constant S_ .f32 0x2EDBE6FF#32),
    nullary main_cst_4 (constant S_ .f32 0x3F800000#32),
    TRef.unary (TRef.of (T := ⟨S_, .f32⟩) main_cst_3) (TRef.of (T := ⟨S_, .f32⟩) main_call4_v0) id,
    TRef.unary (TRef.of (T := ⟨S_, .f32⟩) main_call4_v0) (TRef.of (T := ⟨S2x320, .f32⟩) main_call4_v1) (broadcastInDim S2x320 ![] bcast_S_S2x320),
    TRef.binary (TRef.of (T := ⟨S2x320, .f32⟩) main_call4_v1) (TRef.of (T := ⟨S2x320, .f32⟩) main_v42) (TRef.of (T := ⟨S2x320, .f32⟩) main_call4_v2) maximumf,
    TRef.unary (TRef.of (T := ⟨S_, .f32⟩) main_cst_4) (TRef.of (T := ⟨S_, .f32⟩) main_call4_v3) id,
    TRef.unary (TRef.of (T := ⟨S_, .f32⟩) main_call4_v3) (TRef.of (T := ⟨S2x320, .f32⟩) main_call4_v4) (broadcastInDim S2x320 ![] bcast_S_S2x320),
    TRef.binary (TRef.of (T := ⟨S2x320, .f32⟩) main_call4_v4) (TRef.of (T := ⟨S2x320, .f32⟩) main_call4_v2) (TRef.of (T := ⟨S2x320, .f32⟩) main_v43) minimumf,
    nullary main_cst_5 (constant S_ .f32 0x2EDBE6FF#32),
    unary main_cst_5 main_v44 (broadcastInDim S2x320 ![] bcast_S_S2x320 : (⟨S_, .f32⟩ : BufTy).Contents (Elt F) → (⟨S2x320, .f32⟩ : BufTy).Contents (Elt F)),
    binary main_v43 main_v44 main_v45 (addf : (⟨S2x320, .f32⟩ : BufTy).Contents (Elt F) → (⟨S2x320, .f32⟩ : BufTy).Contents (Elt F) → (⟨S2x320, .f32⟩ : BufTy).Contents (Elt F)),
    unary main_v45 main_v46 (Host.log : (⟨S2x320, .f32⟩ : BufTy).Contents (Elt F) → (⟨S2x320, .f32⟩ : BufTy).Contents (Elt F)),
    binary main_v43 main_v46 main_v47 (mulf : (⟨S2x320, .f32⟩ : BufTy).Contents (Elt F) → (⟨S2x320, .f32⟩ : BufTy).Contents (Elt F) → (⟨S2x320, .f32⟩ : BufTy).Contents (Elt F)),
    nullary main_cst_6 (constant S_ .f32 0x00000000#32),
    binary main_v47 main_cst_6 main_v48 ((fun x v => Host.reduceAdd x v reducesTo_S2x320_S2_d1 h_S_) : (⟨S2x320, .f32⟩ : BufTy).Contents (Elt F) → (⟨S_, .f32⟩ : BufTy).Contents (Elt F) → (⟨S2, .f32⟩ : BufTy).Contents (Elt F)),
    unary main_v48 main_v49 (Host.negf : (⟨S2, .f32⟩ : BufTy).Contents (Elt F) → (⟨S2, .f32⟩ : BufTy).Contents (Elt F)),
    unary main_v49 main_v50 (Host.exp : (⟨S2, .f32⟩ : BufTy).Contents (Elt F) → (⟨S2, .f32⟩ : BufTy).Contents (Elt F)),
    nullary main_cst_7 (constant S_ .f32 0x00000000#32),
    binary main_v50 main_cst_7 main_v51 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_8 (constant S_ .f32 0x40000000#32),
    binary main_v51 main_cst_8 main_v52 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the straight line of those operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation stays within the TensorCore's buffers. -/
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., reshape_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., reshape_bufs_sub .., unary_bufs_sub .., reshape_bufs_sub .., unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., nullary_bufs_sub .., binary_bufs_sub ..⟩

section Reads
variable (V : Valuation τ sig (Elt F))

set_option maxRecDepth 8192 in
set_option maxHeartbeats 8000000 in
/-- The quantized features after the line. -/
theorem read_quant : after ops V (Proc.devRef .tc main_v39)
    = outQuant (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 8000000 in
/-- The encodings after the line. -/
theorem read_enc : after ops V (Proc.devRef .tc main_v38)
    = outEnc (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 8000000 in
/-- The distances after the line. -/
theorem read_dist : after ops V (Proc.devRef .tc main_v35)
    = outDist (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
set_option maxHeartbeats 8000000 in
/-- The mean perplexity after the line. -/
theorem read_perp : after ops V (Proc.devRef .tc main_v52)
    = outPerp (V (Proc.devRef .tc main_arg0)) (V (Proc.devRef .tc main_arg1)) (V (Proc.devRef .tc main_arg2)) (V (Proc.devRef .tc main_arg3)) := by
  simp only [ops, TRef.binary, TRef.nullary, TRef.unary, TRef.quaternary, TRef.toBuf, TRef.ofBuf, cast_eq]
  after_results_simp <;> rfl

set_option maxRecDepth 8192 in
/-- The line writes none of the four arguments. -/
theorem read_args : after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  refine ⟨?_, ?_, ?_, ?_⟩ <;>
  · simp only [ops, TRef.binary, TRef.nullary, TRef.unary, TRef.quaternary, TRef.toBuf, TRef.ofBuf, cast_eq]
    after_results_simp
end Reads

/-- Every execution of the reference ends, with each of the four results at its array function of the arguments and the
    arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v39) = outQuant (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v38) = outEnc (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v35) = outDist (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v52) = outPerp (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨⟨(h c main_v39).trans (read_quant _), (h c main_v38).trans (read_enc _), (h c main_v35).trans (read_dist _), (h c main_v52).trans (read_perp _)⟩,
     (h c main_arg0).trans (read_args _).1, (h c main_arg1).trans (read_args _).2.1, (h c main_arg2).trans (read_args _).2.2.1,
     (h c main_arg3).trans (read_args _).2.2.2⟩)
    (run_seq scopedRefs_eq scopedSems_eq defs main (fun _ => ops) main_eq (fun _ => ops_sub) m ρ)

end Cert.ReferenceIdeal.Hand

end
-- ==== Proof.First.lean ====
/- The first least entry of a finite row of extended reals: what both programs pick out of a row of distances. The
   reference folds a comparison of (distance, index) pairs over the row; the kernel takes the row's minimum, replaces every
   entry above it by an index past the end, and takes the least index left. Both give the first least entry's index. -/
module

public import Idealize.ShloMosaic.Lib.Pointwise
public import Idealize.ShloMosaic.Lib.SortNet.Extract

@[expose] public section

noncomputable section

namespace Cert.Hand

open Idealize.ShloMosaic

/-- Entry `k` of a row is its first least one: no entry is less, and every one as small is not before it. -/
def IsFirst {n : ℕ} (D : Fin n → EReal) (k : Fin n) : Prop := ∀ j, D k ≤ D j ∧ (D j = D k → k ≤ j)

/-- A row has at most one first least entry. -/
theorem IsFirst.unique {n : ℕ} {D : Fin n → EReal} {k l : Fin n} (hk : IsFirst D k) (hl : IsFirst D l) : k = l := by
  have h : D k = D l := le_antisymm (hk l).1 (hl k).1
  exact le_antisymm ((hk l).2 h.symm) ((hl k).2 h)

/-- A nonempty row has a first least entry. -/
theorem exists_isFirst {n : ℕ} [NeZero n] (D : Fin n → EReal) : ∃ k, IsFirst D k := by
  obtain ⟨k₁, -, h₁⟩ := Finset.exists_min_image Finset.univ D ⟨0, Finset.mem_univ _⟩
  let s : Finset (Fin n) := Finset.univ.filter fun k => D k = D k₁
  have hs : s.Nonempty := ⟨k₁, by simp [s]⟩
  have hm : D (s.min' hs) = D k₁ := (Finset.mem_filter.1 (s.min'_mem hs)).2
  refine ⟨s.min' hs, fun j => ⟨hm ▸ h₁ j (Finset.mem_univ _), fun e => s.min'_le j ?_⟩⟩
  simp [s, e, hm]

open Classical in
/-- The one-hot row of a row's first least entry. -/
def hot {n : ℕ} (D : Fin n → EReal) (k : Fin n) : EReal := if IsFirst D k then 1 else 0

/-- A one-hot row is 1 at the first least entry. -/
theorem hot_eq {n : ℕ} {D : Fin n → EReal} {k₀ : Fin n} (h : IsFirst D k₀) (k : Fin n) : hot D k = if k₀ = k then 1 else 0 := by
  classical
  unfold hot
  by_cases e : k₀ = k
  · subst e; simp [h]
  · rw [if_neg e, if_neg fun hk => e (h.unique hk)]

/-- A one-hot row's entries are 0 or 1. -/
theorem hot_or {n : ℕ} (D : Fin n → EReal) (k : Fin n) : hot D k = 0 ∨ hot D k = 1 := by
  classical
  unfold hot; split <;> simp

/-! ### Words below 2³¹ -/

/-- A word of a number below 2³¹ reads back as it, signed. -/
theorem toInt_word {a : ℕ} (h : a < 2 ^ 31) : (BitVec.ofNat 32 a).toInt = a := by
  rw [BitVec.toInt_ofNat', Int.bmod_eq_of_le] <;> omega

/-- Words of numbers below 2³¹ agree exactly where the numbers do. -/
theorem word_inj {a b : ℕ} (ha : a < 2 ^ 31) (hb : b < 2 ^ 31) : BitVec.ofNat 32 a = BitVec.ofNat 32 b ↔ a = b := by
  refine ⟨fun h => ?_, fun h => h ▸ rfl⟩
  have := congrArg BitVec.toInt h
  rw [toInt_word ha, toInt_word hb] at this
  exact_mod_cast this

/-- The +∞ word is the top extended real. -/
theorem ofBits_inf : Ideal.ofBits .f32 0x7F800000#32 = ⊤ := by simp [Ideal.ofBits, Ideal.ieee]

/-! ### The reference's fold -/

/-- The order of (value, index) pairs: by value, and among equal values by index. -/
def Below (a b : EReal × BitVec 32) : Prop := a.1 < b.1 ∨ (a.1 = b.1 ∧ a.2.toInt ≤ b.2.toInt)

theorem Below.refl (a : EReal × BitVec 32) : Below a a := .inr ⟨rfl, le_rfl⟩

theorem Below.trans {a b c : EReal × BitVec 32} (h : Below a b) (k : Below b c) : Below a c := by
  rcases h with h | ⟨h, h'⟩ <;> rcases k with k | ⟨k, k'⟩
  · exact .inl (h.trans k)
  · exact .inl (k ▸ h)
  · exact .inl (h ▸ k)
  · exact .inr ⟨h.trans k, h'.trans k'⟩

theorem Below.total (a b : EReal × BitVec 32) : Below a b ∨ Below b a := by
  rcases lt_trichotomy a.1 b.1 with h | h | h
  · exact .inl (.inl h)
  · rcases le_total a.2.toInt b.2.toInt with k | k
    · exact .inl (.inr ⟨h, k⟩)
    · exact .inr (.inr ⟨h.symm, k⟩)
  · exact .inr (.inl h)

/-- A body on pairs that returns the lesser of its two pairs. -/
def Picks (f : EReal × BitVec 32 → EReal × BitVec 32 → EReal × BitVec 32) : Prop :=
  ∀ a b, (f a b = a ∨ f a b = b) ∧ Below (f a b) a ∧ Below (f a b) b

/-- Such a body folded over a list returns one of the pairs met, and none met is below it. -/
theorem foldl_picks {f : EReal × BitVec 32 → EReal × BitVec 32 → EReal × BitVec 32} (hf : Picks f) (l : List (EReal × BitVec 32))
    (p : EReal × BitVec 32) : l.foldl f p ∈ p :: l ∧ ∀ q ∈ p :: l, Below (l.foldl f p) q := by
  induction l generalizing p with
  | nil => simpa using Below.refl p
  | cons q l ih =>
    obtain ⟨hm, hb⟩ := ih (f p q)
    obtain ⟨he, h1, h2⟩ := hf p q
    have hbf := hb (f p q) (by simp)
    refine ⟨?_, fun r hr => ?_⟩
    · rw [List.foldl_cons]
      rcases List.mem_cons.1 hm with h | h
      · rw [h]; rcases he with e | e <;> simp [e]
      · simp [h]
    · rw [List.foldl_cons]
      rcases List.mem_cons.1 hr with h | h
      · exact h ▸ hbf.trans h1
      · rcases List.mem_cons.1 h with h | h
        · exact h ▸ hbf.trans h2
        · exact hb r (by simp [h])

/-- Folded from the pair (+∞, 0) over the pairs of a row's entries and their indices, whatever the order, such a body
    returns the first least entry's index. -/
theorem foldl_first {n : ℕ} [NeZero n] (hn : n < 2 ^ 31) {f : EReal × BitVec 32 → EReal × BitVec 32 → EReal × BitVec 32} (hf : Picks f)
    (D : Fin n → EReal) (l : List (EReal × BitVec 32)) (hl : ∀ q, q ∈ l ↔ ∃ k : Fin n, q = (D k, BitVec.ofNat 32 k.val)) :
    ∃ k, IsFirst D k ∧ (l.foldl f (⊤, 0#32)).2 = BitVec.ofNat 32 k.val := by
  obtain ⟨hm, hb⟩ := foldl_picks hf l (⊤, 0#32)
  set r := l.foldl f (⊤, 0#32) with hr
  have hbk : ∀ k : Fin n, Below r (D k, BitVec.ofNat 32 k.val) := fun k => hb _ (List.mem_cons_of_mem _ ((hl _).2 ⟨k, rfl⟩))
  have key : ∃ k : Fin n, r = (D k, BitVec.ofNat 32 k.val) := by
    rcases List.mem_cons.1 hm with h | h
    · refine ⟨0, ?_⟩
      have h0 := hbk 0
      rw [h] at h0
      rcases h0 with h0 | ⟨h0, -⟩
      · exact absurd h0 (by simp)
      · rw [h]; exact Prod.ext h0 rfl
    · exact (hl _).1 h
  obtain ⟨k, hk⟩ := key
  refine ⟨k, fun j => ?_, by rw [hk]⟩
  have := hbk j
  rw [hk] at this
  rcases this with h | ⟨h, h'⟩
  · exact ⟨le_of_lt h, fun e => absurd h (by simp [e])⟩
  · refine ⟨le_of_eq h, fun _ => ?_⟩
    simp only at h'
    rw [toInt_word (by omega), toInt_word (by omega)] at h'
    exact Fin.le_def.2 (by exact_mod_cast h')

/-! ### The kernel's minimum and least index -/

/-- A fold of the signed minimum is at most a word exactly where its start or one of the entries is. -/
theorem fold_minsi_le {ι : Type} [DecidableEq ι] (s : Finset ι) (b c : BitVec 32) (g : ι → BitVec 32) :
    (s.fold IntOp.minsi b g).toInt ≤ c.toInt ↔ b.toInt ≤ c.toInt ∨ ∃ x ∈ s, (g x).toInt ≤ c.toInt := by
  induction s using Finset.induction_on with
  | empty => simp
  | insert a s ha ih =>
    rw [Finset.fold_insert ha, SortNet.toInt_minsi, min_le_iff, ih]
    constructor
    · rintro (h | h | ⟨x, hx, h⟩)
      · exact .inr ⟨a, by simp, h⟩
      · exact .inl h
      · exact .inr ⟨x, by simp [hx], h⟩
    · rintro (h | ⟨x, hx, h⟩)
      · exact .inr (.inl h)
      · rcases Finset.mem_insert.1 hx with e | e
        · exact .inl (e ▸ h)
        · exact .inr (.inr ⟨x, e, h⟩)

/-- A word is at most a fold of the signed minimum exactly where it is at most its start and every entry. -/
theorem le_fold_minsi {ι : Type} [DecidableEq ι] (s : Finset ι) (b c : BitVec 32) (g : ι → BitVec 32) :
    c.toInt ≤ (s.fold IntOp.minsi b g).toInt ↔ c.toInt ≤ b.toInt ∧ ∀ x ∈ s, c.toInt ≤ (g x).toInt := by
  induction s using Finset.induction_on with
  | empty => simp
  | insert a s ha ih =>
    rw [Finset.fold_insert ha, SortNet.toInt_minsi, le_min_iff, ih]
    simp only [Finset.mem_insert, forall_eq_or_imp]
    tauto

/-- The minimum of a row, from +∞, is its first least entry. -/
theorem fold_min_first {n : ℕ} {D : Fin n → EReal} {k : Fin n} (h : IsFirst D k) :
    Finset.fold min ⊤ D Finset.univ = D k := by
  refine le_antisymm (Finset.fold_min_le _ |>.2 (.inr ⟨k, Finset.mem_univ _, le_rfl⟩)) ?_
  exact Finset.le_fold_min _ |>.2 ⟨le_top, fun j _ => (h j).1⟩

open Classical in
/-- The least of the indices at the row's minimum, an index past the end elsewhere, is the first least entry's index. -/
theorem fold_minsi_first {n : ℕ} (hn : n < 2 ^ 31 - 1) {D : Fin n → EReal} {k : Fin n} (h : IsFirst D k) :
    Finset.fold IntOp.minsi 2147483647#32
      (fun x : Fin n => if D x = Finset.fold min ⊤ D Finset.univ then BitVec.ofNat 32 x.val else BitVec.ofNat 32 n) Finset.univ
      = BitVec.ofNat 32 k.val := by
  rw [fold_min_first h]
  have hk : (BitVec.ofNat 32 k.val).toInt = k.val := toInt_word (by omega)
  have hM : (2147483647#32 : BitVec 32).toInt = 2147483647 := by decide
  refine BitVec.eq_of_toInt_eq (le_antisymm ?_ ?_)
  · rw [fold_minsi_le]
    exact .inr ⟨k, Finset.mem_univ _, by simp⟩
  · rw [le_fold_minsi]
    refine ⟨by rw [hk, hM]; have := k.isLt; omega, fun x _ => ?_⟩
    split
    · next e =>
      rw [hk, toInt_word (by omega)]
      exact_mod_cast Fin.le_def.1 ((h x).2 e)
    · rw [hk, toInt_word (by omega)]
      exact_mod_cast k.isLt.le

/-! ### One-hot words -/

/-- An equality test of two index words, widened and read signed, is 1 where the indices agree and 0 elsewhere. -/
theorem sitofp_eq_word {a b : ℕ} (ha : a < 2 ^ 31) (hb : b < 2 ^ 31) :
    (FloatOps.sitofp .f32 (BitVec.setWidth 32 (IntOp.cmpi .eq (BitVec.ofNat 32 a) (BitVec.ofNat 32 b))) : Ideal .f32)
      = if b = a then 1 else 0 := by
  by_cases e : b = a
  · subst e
    rw [if_pos rfl]
    show (((BitVec.setWidth 32 (BitVec.ofBool (BitVec.ofNat 32 b == BitVec.ofNat 32 b))).toInt : ℝ) : EReal) = 1
    simp
  · rw [if_neg e]
    show (((BitVec.setWidth 32 (BitVec.ofBool (BitVec.ofNat 32 a == BitVec.ofNat 32 b))).toInt : ℝ) : EReal) = 0
    have : (BitVec.ofNat 32 a == BitVec.ofNat 32 b) = false := by
      rw [beq_eq_false_iff_ne]; exact fun h => e ((word_inj ha hb).1 h).symm
    rw [this]; simp

/-- An equality test of two index words, read unsigned, is 1 where the indices agree and 0 elsewhere. -/
theorem uitofp_eq_word {a b : ℕ} (ha : a < 2 ^ 31) (hb : b < 2 ^ 31) :
    (FloatOps.uitofp .f32 (IntOp.cmpi .eq (BitVec.ofNat 32 a) (BitVec.ofNat 32 b)) : Ideal .f32) = if a = b then 1 else 0 := by
  by_cases e : a = b
  · subst e
    rw [if_pos rfl]
    show (((BitVec.ofBool (BitVec.ofNat 32 a == BitVec.ofNat 32 a)).toNat : ℝ) : EReal) = 1
    simp
  · rw [if_neg e]
    show (((BitVec.ofBool (BitVec.ofNat 32 a == BitVec.ofNat 32 b)).toNat : ℝ) : EReal) = 0
    have : (BitVec.ofNat 32 a == BitVec.ofNat 32 b) = false := by
      rw [beq_eq_false_iff_ne]; exact fun h => e ((word_inj ha hb).1 h)
    rw [this]; simp

end Cert.Hand

end
-- ==== Proof.Spec.lean ====
/- The mathematics both programs compute, on plain functions of indices: a hidden row, the squared distance of a group's part
   of it to a codevector (as a sum of squares and expanded), a row's mixture of codevectors, and the perplexity of counts. -/
module

public import proofs.«01_k».proof.Proof.First

@[expose] public section

noncomputable section

namespace Cert.Hand

open Idealize.ShloMosaic

/-- A hidden row: a row of inputs times the weights, plus the bias. -/
def row (x : Fin 512 → EReal) (W : Fin 512 → Fin 256 → EReal) (b : Fin 256 → EReal) (n : Fin 256) : EReal :=
  ∑ t, x t * W t n + b n

/-- A group's part of a hidden row: 128 of its 256 columns. -/
def part (h : Fin 256 → EReal) (g : Fin 2) (d : Fin 128) : EReal := h ⟨128 * g.val + d.val, by omega⟩

/-- The squared distance of two vectors. -/
def sqd (h c : Fin 128 → EReal) : EReal := ∑ d, (h d - c d) * (h d - c d)

/-- The squared distance expanded: ‖h‖² − 2 c·h + ‖c‖². -/
def expd (h c : Fin 128 → EReal) : EReal :=
  ∑ d, h d * h d - Ideal.ofBits .f32 0x40000000#32 * ∑ d, c d * h d + ∑ d, c d * c d

/-- A mixture of codevectors. -/
def mix (e : Fin 320 → EReal) (c : Fin 320 → Fin 128 → EReal) (d : Fin 128) : EReal := ∑ k, e k * c k d

/-- A mixture with each codevector split in itself and what is left of it. -/
def mix2 (e : Fin 320 → EReal) (c : Fin 320 → Fin 128 → EReal) (d : Fin 128) : EReal :=
  ∑ k, e k * c k d + ∑ k, e k * (c k d - c k d)

/-- A mean count clipped to [1e-10, 1]. -/
def clip (p : EReal) : EReal := min 1 (max (Ideal.ofBits .f32 0x2EDBE6FF#32) p)

/-- The mean over both groups of the exponential of the entropy of their clipped mean counts. -/
def perp (p : Fin 2 → Fin 320 → EReal) : EReal :=
  Ideal.div (∑ g, Ideal.exp (-∑ k, clip (p g k) * Ideal.log (clip (p g k) + Ideal.ofBits .f32 0x2EDBE6FF#32)))
    (Ideal.ofBits .f32 0x40000000#32)

/-! ### The four results, of the hidden states, the weights, the bias and the codevectors -/

section results

variable (x : Fin 16 → Fin 1024 → Fin 512 → EReal) (W : Fin 512 → Fin 256 → EReal) (b : Fin 256 → EReal)
  (cv : Fin 2 → Fin 320 → Fin 128 → EReal)

/-- The distance, of group `g`, of batch entry `i`'s position `s` to codevector `k`. -/
def distOf (g : Fin 2) (i : Fin 16) (s : Fin 1024) (k : Fin 320) : EReal := sqd (part (row (x i s) W b) g) (cv g k)

/-- The encoding: one-hot at the first least distance. -/
def encOf (g : Fin 2) (i : Fin 16) (s : Fin 1024) (k : Fin 320) : EReal := hot (distOf x W b cv g i s) k

/-- The quantized rows: each group's encodings times its codevectors, side by side. -/
def quantOf (i : Fin 16) (s : Fin 1024) (n : Fin 256) : EReal :=
  if h : n.val < 128 then mix (encOf x W b cv 0 i s) (cv 0) ⟨n.val, h⟩
  else mix (encOf x W b cv 1 i s) (cv 1) ⟨n.val - 128, by omega⟩

/-- The perplexity of the mean encodings. -/
def perpOf : EReal :=
  perp fun g k => Ideal.div (∑ i, ∑ s, encOf x W b cv g i s k) (Ideal.ofBits .f32 0x46800000#32)

end results

/-! ### Finite entries -/

/-- An extended real that is a real number. -/
def IsReal (a : EReal) : Prop := a ≠ ⊥ ∧ a ≠ ⊤

theorem isReal_coe (r : ℝ) : IsReal (r : EReal) := ⟨EReal.coe_ne_bot r, EReal.coe_ne_top r⟩

/-- A finite function is the coercion of a real one. -/
theorem exists_real {ι : Type} {f : ι → EReal} (h : ∀ i, IsReal (f i)) : ∃ g : ι → ℝ, f = fun i => (g i : EReal) :=
  ⟨fun i => (f i).toReal, funext fun i => (EReal.coe_toReal (h i).2 (h i).1).symm⟩

/-- A sum of real numbers, in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A hidden row of finite inputs is finite. -/
theorem row_isReal {x : Fin 512 → EReal} {W : Fin 512 → Fin 256 → EReal} {b : Fin 256 → EReal} (hx : ∀ t, IsReal (x t))
    (hW : ∀ t n, IsReal (W t n)) (hb : ∀ n, IsReal (b n)) (n : Fin 256) : IsReal (row x W b n) := by
  obtain ⟨x, rfl⟩ := exists_real hx
  obtain ⟨w, hw⟩ := exists_real fun t => hW t n
  obtain ⟨b, rfl⟩ := exists_real hb
  have : row (fun i => (x i : EReal)) W (fun i => (b i : EReal)) n = ((∑ t, x t * w t + b n : ℝ) : EReal) := by
    unfold row
    rw [EReal.coe_add, ← coe_sum]
    refine congrArg (· + (b n : EReal)) (Finset.sum_congr rfl fun t _ => ?_)
    rw [show W t n = w t from congrFun hw t, EReal.coe_mul]
  rw [this]; exact isReal_coe _

/-- The word of 2 is the number. -/
theorem ofBits_two : Ideal.ofBits .f32 0x40000000#32 = ((2 : ℝ) : EReal) := by
  simp [Ideal.ofBits, Ideal.ieee]
  rw [← EReal.coe_mul]; norm_num

/-- On finite vectors the expanded squared distance is the sum of squares. -/
theorem expd_eq {h c : Fin 128 → EReal} (hh : ∀ d, IsReal (h d)) (hc : ∀ d, IsReal (c d)) : expd h c = sqd h c := by
  obtain ⟨h, rfl⟩ := exists_real hh
  obtain ⟨c, rfl⟩ := exists_real hc
  unfold expd sqd
  rw [ofBits_two]
  simp only [← EReal.coe_mul, ← EReal.coe_sub, coe_sum, ← EReal.coe_add]
  congr 1
  rw [Finset.mul_sum, ← Finset.sum_sub_distrib, ← Finset.sum_add_distrib]
  exact Finset.sum_congr rfl fun d _ => by ring

/-- On finite codevectors what is left of each is nothing. -/
theorem mix2_eq {e : Fin 320 → EReal} {c : Fin 320 → Fin 128 → EReal} {d : Fin 128} (hc : ∀ k, IsReal (c k d)) :
    mix2 e c d = mix e c d := by
  unfold mix2 mix
  have : ∑ k, e k * (c k d - c k d) = 0 := Finset.sum_eq_zero fun k _ => by rw [EReal.sub_self (hc k).2 (hc k).1, mul_zero]
  rw [this, add_zero]

/-- A power-of-two scale by its reciprocal: times 2⁻¹⁴ is divided by 2¹⁴. -/
theorem scale_eq (a : EReal) : a * Ideal.ofBits .f32 0x38800000#32 = Ideal.div a (Ideal.ofBits .f32 0x46800000#32) := by
  have h1 : Ideal.ofBits .f32 0x38800000#32 = (((16384 : ℝ)⁻¹ : ℝ) : EReal) := by
    simp [Ideal.ofBits, Ideal.ieee]; rw [← EReal.coe_mul]; norm_num
  have h2 : Ideal.ofBits .f32 0x46800000#32 = ((16384 : ℝ) : EReal) := by
    simp [Ideal.ofBits, Ideal.ieee]; rw [← EReal.coe_mul]; norm_num
  rw [h1, h2, Ideal.div_coe (by norm_num), one_div]

end Cert.Hand

end
-- ==== Proof.KernelBlock.lean ====
/- What one launch point of the first kernel leaves in its four output blocks, entry by entry, from its input blocks. -/
module

public import proofs.«01_k».proof.Proof.Gen.KernelIdeal.Frame
public import proofs.«01_k».proof.Proof.Spec
public import Idealize.ShloMosaic.Lib.Pipeline.Value

@[expose] public section

noncomputable section

namespace Cert.KernelIdeal.Hand

open Cert.KernelIdeal Cert.KernelIdeal.Gen Cert.Hand Idealize.ShloMosaic

/-! ### The body's vectors -/

section pay

variable (v0 : Vec Ideal S1x1024x512 .f32) (v2 : Vec Ideal S512x256 .f32) (v3 : Vec Ideal S256x1 .f32) (v4 : Vec Ideal S1x320x128 .f32)

/-- A block's hidden row at position `s`. -/
def brow (s : Fin 1024) : Fin 256 → EReal :=
  row (fun t => v0 (ix3 0 s t)) (fun t n => v2 (ix2 t n)) (fun n => v3 (ix2 n 0))

/-- The body's hidden columns are the hidden rows. -/
theorem hid_apply (n : Fin 256) (s : Fin 1024) : k0_pay7 v0 v2 v3 (ix2 n s) = brow v0 v2 v3 s n := by
  unfold brow row
  pointwise [k0_pay7, dot_S512x256_S1024x512_S256x1024_0_1_1_0_n_n]
  exact congrArg (· + v3 (ix2 n 0)) (Finset.sum_congr rfl fun t _ => mul_comm _ _)

/-- The first group's distances. -/
theorem dist0_apply (k : Fin 320) (s : Fin 1024) :
    k0_pay10 v0 v2 v3 v4 (ix2 k s) = expd (part (brow v0 v2 v3 s) 0) (fun d => v4 (ix3 0 k d)) := by
  have e : ∀ d : Fin 128, k0_pay7 v0 v2 v3 (ix2 ⟨d.val, by omega⟩ s) = part (brow v0 v2 v3 s) 0 d := fun d => by
    rw [hid_apply]; unfold part; congr 2; simp
  unfold expd
  pointwise [k0_pay10, k0_pay9, dot_S320x128_S128x1024_S320x1024_1_0_0_1_n_n]
  simp only [e]

/-- The second group's distances. -/
theorem dist1_apply (k : Fin 320) (s : Fin 1024) :
    k0_pay19 (k0_pay7 v0 v2 v3) v4 (ix2 k s) = expd (part (brow v0 v2 v3 s) 1) (fun d => v4 (ix3 0 k d)) := by
  have e : ∀ d : Fin 128, k0_pay7 v0 v2 v3 (ix2 ⟨128 + d.val, by omega⟩ s) = part (brow v0 v2 v3 s) 1 d := fun d => by
    rw [hid_apply]; unfold part; congr 2
  unfold expd
  pointwise [k0_pay19, k0_pay18, dot_S320x128_S128x1024_S320x1024_1_0_0_1_n_n]
  simp only [e]

/-- The second group's encodings are one-hot at each position's first least distance. -/
theorem enc1_apply (D : FVec Ideal S320x1024 .f32) (k : Fin 320) (s : Fin 1024) :
    k0_pay2 (iota .tc S320x1024 32 [0] iota_S320x1024_d0_w32) D (ix2 k s) = hot (fun j => D (ix2 j s)) k := by
  classical
  obtain ⟨l, hl⟩ := exists_isFirst fun j => D (ix2 j s)
  have e := fold_minsi_first (n := 320) (by omega) hl
  pointwise [k0_pay2]
  rw [ofBits_inf]
  rw [hot_eq hl, show (320#32 : BitVec 32) = BitVec.ofNat 32 320 from rfl]
  have := sitofp_eq_word (a := k.val) (b := l.val) (by omega) (by omega)
  rw [← e] at this
  convert this using 3
  simp [Fin.ext_iff]

/-- So are the first group's. -/
theorem enc0_apply (k : Fin 320) (s : Fin 1024) :
    k0_pay13 (F := Ideal) (iota .tc S320x1024 32 [0] iota_S320x1024_d0_w32) (k0_pay12 v0 v2 v3 v4) (ix2 k s)
      = hot (fun j => k0_pay10 v0 v2 v3 v4 (ix2 j s)) k := by
  classical
  obtain ⟨l, hl⟩ := exists_isFirst fun j => k0_pay10 v0 v2 v3 v4 (ix2 j s)
  have e := fold_minsi_first (n := 320) (by omega) hl
  pointwise [k0_pay13, k0_pay12]
  rw [ofBits_inf]
  rw [hot_eq hl, show (320#32 : BitVec 32) = BitVec.ofNat 32 320 from rfl]
  have := sitofp_eq_word (a := k.val) (b := l.val) (by omega) (by omega)
  rw [← e] at this
  convert this using 3
  simp [Fin.ext_iff]

end pay

/-! ### The output blocks -/

section out

variable (x0 : Vec Ideal S1x1024x512 .f32) (x1 : Vec Ideal S512x256 .f32) (x2 : Vec Ideal S256x1 .f32) (x3 : Vec Ideal S2x320x128 .f32)

/-- A block's distances: of group `g`, of position `s` to codevector `k`. -/
def bdist (g : Fin 2) (k : Fin 320) (s : Fin 1024) : EReal := expd (part (brow x0 x1 x2 s) g) (fun d => x3 (ix3 g k d))

/-- A block's encodings. -/
def benc (g : Fin 2) (k : Fin 320) (s : Fin 1024) : EReal := hot (fun j => bdist x0 x1 x2 x3 g j s) k

/-- A load of a group of the codevectors is that group. -/
theorem ld_codes0 (k : Fin 320) (d : Fin 128) : View.ld x3 r0_3 (ix3 0 k d) = x3 (ix3 0 k d) := by
  refine congrArg x3 ?_; idx_ext

theorem ld_codes1 (k : Fin 320) (d : Fin 128) : View.ld x3 r0_6 (ix3 0 k d) = x3 (ix3 1 k d) := by
  refine congrArg x3 ?_; idx_ext

/-- The loads of whole blocks are the blocks. -/
theorem ld_x : View.ld x0 r0_0 = x0 := View.ld_unit_zero (by funext a; fin_cases a <;> rfl) _ x0
theorem ld_W : View.ld x1 r0_1 = x1 := View.ld_unit_zero (by funext a; fin_cases a <;> rfl) _ x1
theorem ld_b : View.ld x2 r0_2 = x2 := View.ld_unit_zero (by funext a; fin_cases a <;> rfl) _ x2

/-- The first group's distances over the loaded blocks, -/
theorem pay10_apply (k : Fin 320) (s : Fin 1024) :
    k0_pay10 (View.ld x0 r0_0) (View.ld x1 r0_1) (View.ld x2 r0_2) (View.ld x3 r0_3) (ix2 k s) = bdist x0 x1 x2 x3 0 k s := by
  rw [dist0_apply, ld_x, ld_W, ld_b]; exact congrArg (expd _) (funext fun d => ld_codes0 x3 k d)

/-- and the second's. -/
theorem pay23_apply (k : Fin 320) (s : Fin 1024) : k0_pay23 x0 x1 x2 x3 (ix2 k s) = bdist x0 x1 x2 x3 1 k s := by
  unfold k0_pay23; rw [dist1_apply, ld_x, ld_W, ld_b]; exact congrArg (expd _) (funext fun d => ld_codes1 x3 k d)

/-- The first group's encodings over the loaded blocks, -/
theorem pay13_apply (k : Fin 320) (s : Fin 1024) :
    k0_pay13 (F := Ideal) (k0_pay20 x0 x1 x2 x3) (k0_pay22 x0 x1 x2 x3) (ix2 k s) = benc x0 x1 x2 x3 0 k s := by
  unfold k0_pay20 k0_pay22; rw [enc0_apply]; unfold benc; simp only [pay10_apply]

/-- and the second's. -/
theorem pay2_apply (k : Fin 320) (s : Fin 1024) :
    k0_pay2 (k0_pay20 x0 x1 x2 x3) (k0_pay23 x0 x1 x2 x3) (ix2 k s) = benc x0 x1 x2 x3 1 k s := by
  unfold k0_pay20; rw [enc1_apply]; unfold benc; simp only [pay23_apply]

/-- The contents two stores leave, at an index under the last one, -/
theorem canon_last {S : Shape} {r r' : Rect S} {w : r.shape.Idx → Ideal .f32} {w' : r'.shape.Idx → Ideal .f32} {x : r.shape.Idx} {y : S.Idx}
    (h : r.emb x = y) : View.canon (Val := Elt Ideal) (e := .f32) [⟨r, w⟩, ⟨r', w'⟩] y = w x := by
  subst h; exact View.canon_cons_emb (Val := Elt Ideal) (e := .f32) r w _ x

/-- and at an index under the first alone. -/
theorem canon_first {S : Shape} {r r' : Rect S} {w : r.shape.Idx → Ideal .f32} {w' : r'.shape.Idx → Ideal .f32} {x : r'.shape.Idx} {y : S.Idx}
    (hn : y ∉ r.set) (h : r'.emb x = y) : View.canon (Val := Elt Ideal) (e := .f32) [⟨r, w⟩, ⟨r', w'⟩] y = w' x := by
  subst h
  exact (View.canon_cons_of_not_mem (Val := Elt Ideal) (e := .f32) ⟨r, w⟩ _ hn).trans (View.canon_cons_emb (Val := Elt Ideal) (e := .f32) r' w' _ x)

/-- Where the two stores of a group each lie in the window's block. -/
theorem emb7 (k : Fin 320) (s : Fin 1024) : r0_7.emb (ix4 0 0 k s) = ix4 1 0 k s := by idx_ext
theorem emb4 (k : Fin 320) (s : Fin 1024) : r0_4.emb (ix4 0 0 k s) = ix4 0 0 k s := by idx_ext
theorem not_mem7 (k : Fin 320) (s : Fin 1024) : (ix4 0 0 k s : S2x1x320x1024.Idx) ∉ r0_7.set := by
  rw [Rect.mem_set_unit]; intro h; exact absurd (show 1 ≤ 0 from (h 0).1) (by decide)

/-- The distances' block. -/
theorem out6_0 (k : Fin 320) (s : Fin 1024) : out0_6 x0 x1 x2 x3 (ix4 0 0 k s) = bdist x0 x1 x2 x3 0 k s := by
  refine (canon_first (not_mem7 k s) (emb4 k s)).trans ?_
  pointwise [k0_pay11]
  exact pay10_apply x0 x1 x2 x3 k s

theorem out6_1 (k : Fin 320) (s : Fin 1024) : out0_6 x0 x1 x2 x3 (ix4 1 0 k s) = bdist x0 x1 x2 x3 1 k s := by
  refine (canon_last (emb7 k s)).trans ?_
  pointwise [k0_pay1]
  exact pay23_apply x0 x1 x2 x3 k s

theorem out6_apply (g : Fin 2) (k : Fin 320) (s : Fin 1024) : out0_6 x0 x1 x2 x3 (ix4 g 0 k s) = bdist x0 x1 x2 x3 g k s :=
  match g with
  | 0 => out6_0 x0 x1 x2 x3 k s
  | 1 => out6_1 x0 x1 x2 x3 k s

/-- The encodings' block. -/
theorem out5_0 (k : Fin 320) (s : Fin 1024) : out0_5 x0 x1 x2 x3 (ix4 0 0 k s) = benc x0 x1 x2 x3 0 k s := by
  refine (canon_first (not_mem7 k s) (emb4 k s)).trans ?_
  pointwise [k0_pay14]
  exact pay13_apply x0 x1 x2 x3 k s

theorem out5_1 (k : Fin 320) (s : Fin 1024) : out0_5 x0 x1 x2 x3 (ix4 1 0 k s) = benc x0 x1 x2 x3 1 k s := by
  refine (canon_last (emb7 k s)).trans ?_
  pointwise [k0_pay3]
  exact pay2_apply x0 x1 x2 x3 k s

theorem out5_apply (g : Fin 2) (k : Fin 320) (s : Fin 1024) : out0_5 x0 x1 x2 x3 (ix4 g 0 k s) = benc x0 x1 x2 x3 g k s :=
  match g with
  | 0 => out5_0 x0 x1 x2 x3 k s
  | 1 => out5_1 x0 x1 x2 x3 k s

/-- The quantized rows' block, at a column of the first group, -/
theorem out4_0 (s : Fin 1024) (d : Fin 128) :
    out0_4 x0 x1 x2 x3 (ix3 0 s ⟨d.val, by omega⟩) = mix2 (fun k => benc x0 x1 x2 x3 0 k s) (fun k d => x3 (ix3 0 k d)) d := by
  have hn : (ix3 0 s ⟨d.val, by omega⟩ : S1x1024x256.Idx) ∉ r0_8.set := by
    rw [Rect.mem_set_unit]; intro h
    exact absurd (show 128 ≤ d.val from (h 2).1) (by omega)
  have he : r0_5.emb (ix3 0 s d) = ix3 0 s ⟨d.val, by omega⟩ := by idx_ext
  refine (canon_first hn he).trans ?_
  unfold mix2
  pointwise [k0_pay16, k0_pay15, k0_pay9, dot_S320x1024_S320x128_S1024x128_0_0_1_1_n_n]
  simp only [pay13_apply]

/-- and at a column of the second. -/
theorem out4_1 (s : Fin 1024) (d : Fin 128) :
    out0_4 x0 x1 x2 x3 (ix3 0 s ⟨128 + d.val, by omega⟩) = mix2 (fun k => benc x0 x1 x2 x3 1 k s) (fun k d => x3 (ix3 1 k d)) d := by
  have he : r0_8.emb (ix3 0 s d) = ix3 0 s ⟨128 + d.val, by omega⟩ := by idx_ext
  refine (canon_last he).trans ?_
  unfold mix2
  pointwise [k0_pay5, k0_pay4, k0_pay18, dot_S320x1024_S320x128_S1024x128_0_0_1_1_n_n]
  simp only [pay2_apply]

/-- The counts' block: each codevector's encodings summed over the positions. -/
theorem out7_apply (g : Fin 2) (k : Fin 320) : out0_7 x0 x1 x2 x3 (ix3 0 g k) = ∑ s, benc x0 x1 x2 x3 g k s := by
  unfold out0_7
  rw [View.canon_unit_zero (by funext a; fin_cases a <;> rfl)]
  pointwise [k0_pay6, k0_pay17, k0_pay15, k0_pay4, k0_pay21, k0_pay8, dot_S1x1024_S320x1024_S1x320_1_1_0_0_n_n]
  match g with
  | 0 => simp [pay13_apply]
  | 1 => simp [pay2_apply]

end out

/-- The second kernel's result, from the counts of every batch entry. -/
theorem out11_apply (x : Vec Ideal S16x2x320 .f32) :
    out1_1 x (ix2 0 0) = perp fun g k => (∑ i, x (ix3 i g k)) * Ideal.ofBits .f32 0x38800000#32 := by
  unfold out1_1 perp clip
  rw [View.canon_unit_zero (by funext a; fin_cases a <;> rfl), View.ld_unit_zero (by funext a; fin_cases a <;> rfl)]
  pointwise [k1_pay1]
  simp only [zero_sub]

end Cert.KernelIdeal.Hand

end
-- ==== Proof.KernelArrays.lean ====
/- What the two kernels leave in their result arrays, entry by entry, from the arrays they are launched on: each point's
   blocks are read off those arrays, and the points' output blocks tile the result arrays. -/
module

public import proofs.«01_k».proof.Proof.KernelBlock
public import Idealize.ShloMosaic.Lib.Pipeline.ValueKit

@[expose] public section

noncomputable section

namespace Cert.KernelIdeal.Hand

open Cert.KernelIdeal Cert.KernelIdeal.Gen Cert.Hand Idealize.ShloMosaic Idealize.ShloMosaic.TcCoe
open Idealize.SL Idealize.SL.Sem Idealize.ShloMosaic.Pipeline

/-! ### Which block each window is on at a point -/

theorem idx0_0 : ∀ t : Fin grid0.N, win0_0.index t = ![t.val, 0, 0] := by decide +kernel
theorem idx0_1 : ∀ t : Fin grid0.N, win0_1.index t = ![0, 0] := by decide +kernel
theorem idx0_2 : ∀ t : Fin grid0.N, win0_2.index t = ![0, 0] := by decide +kernel
theorem idx0_3 : ∀ t : Fin grid0.N, win0_3.index t = ![0, 0, 0] := by decide +kernel
theorem idx0_4 : ∀ t : Fin grid0.N, win0_4.index t = ![t.val, 0, 0] := by decide +kernel
theorem idx0_5 : ∀ t : Fin grid0.N, win0_5.index t = ![0, t.val, 0, 0] := by decide +kernel
theorem idx0_6 : ∀ t : Fin grid0.N, win0_6.index t = ![0, t.val, 0, 0] := by decide +kernel
theorem idx0_7 : ∀ t : Fin grid0.N, win0_7.index t = ![t.val, 0, 0] := by decide +kernel
theorem idx1_0 : ∀ t : Fin grid1.N, win1_0.index t = ![0, 0, 0] := by decide +kernel

/-- A launch point is a batch entry. -/
def batch (t : Fin grid0.N) : Fin 16 := ⟨t.val, t.isLt⟩

variable (V : (c : Dev nD) → (b : Ref sig .tc) → Buf (Elt Ideal) ((c : Thread nD τ).loc b)) (c : Dev nD)

/-! ### The input blocks -/

theorem read0 (t : Fin grid0.N) (s : Fin 1024) (d : Fin 512) :
    (iblk0 V c 0 t : Vec Ideal S1x1024x512 .f32) (ix3 0 s d) = V c main_arg0 (ix3 (batch t) s d) := by
  blk_simp [iblk0]
  refine congrArg (V c main_arg0) ?_
  funext a
  apply Fin.ext
  blk_simp [idx0_0]
  fin_cases a <;> simp [batch]

theorem read1 (t : Fin grid0.N) (k : Fin 512) (n : Fin 256) :
    (iblk0 V c 1 t : Vec Ideal S512x256 .f32) (ix2 k n) = V c main_arg1 (ix2 k n) := by
  blk_simp [iblk0]
  refine congrArg (V c main_arg1) ?_
  funext a
  apply Fin.ext
  blk_simp [idx0_1]
  fin_cases a <;> simp

theorem read2 (t : Fin grid0.N) (n : Fin 256) :
    (iblk0 V c 2 t : Vec Ideal S256x1 .f32) (ix2 n 0) = V c main_v0 (ix2 n 0) := by
  blk_simp [iblk0]
  refine congrArg (V c main_v0) ?_
  funext a
  apply Fin.ext
  blk_simp [idx0_2]
  fin_cases a <;> simp

theorem read3 (t : Fin grid0.N) (g : Fin 2) (k : Fin 320) (d : Fin 128) :
    (iblk0 V c 3 t : Vec Ideal S2x320x128 .f32) (ix3 g k d) = V c main_arg3 (ix3 g k d) := by
  blk_simp [iblk0]
  refine congrArg (V c main_arg3) ?_
  funext a
  apply Fin.ext
  blk_simp [idx0_3]
  fin_cases a <;> simp

/-! ### The result arrays -/

/-- The hidden row of batch entry `i` at position `s`. -/
def arow (i : Fin 16) (s : Fin 1024) : Fin 256 → EReal :=
  row (fun t => V c main_arg0 (ix3 i s t)) (fun t n => V c main_arg1 (ix2 t n)) (fun n => V c main_v0 (ix2 n 0))

/-- Its expanded squared distance to a codevector. -/
def adist (g : Fin 2) (i : Fin 16) (k : Fin 320) (s : Fin 1024) : EReal :=
  expd (part (arow V c i s) g) (fun d => V c main_arg3 (ix3 g k d))

/-- Its one-hot encoding. -/
def aenc (g : Fin 2) (i : Fin 16) (k : Fin 320) (s : Fin 1024) : EReal := hot (fun j => adist V c g i j s) k

/-- At a point the body's distances are its batch entry's, -/
theorem bdist_eq (t : Fin grid0.N) (g : Fin 2) (k : Fin 320) (s : Fin 1024) :
    bdist (iblk0 V c 0 t) (iblk0 V c 1 t) (iblk0 V c 2 t) (iblk0 V c 3 t) g k s = adist V c g (batch t) k s := by
  unfold bdist adist brow arow
  simp only [read0, read1, read2, read3]

/-- and so are its encodings. -/
theorem benc_eq (t : Fin grid0.N) (g : Fin 2) (k : Fin 320) (s : Fin 1024) :
    benc (iblk0 V c 0 t) (iblk0 V c 1 t) (iblk0 V c 2 t) (iblk0 V c 3 t) g k s = aenc V c g (batch t) k s := by
  unfold benc aenc
  simp only [bdist_eq]

/-- The distances' array. -/
theorem arr6 : (dat0 V c).arrAt 6 cfg0.N = fun y => adist V c (y 0) (y 1) (y 2) (y 3) := by
  refine (dat0 V c).arrAt_eq_of_covers 6 _ (by decide +kernel) fun t hf y => ?_
  blk_simp
  rw [after0_6]
  obtain ⟨g, z, k, s, rfl⟩ : ∃ (g : Fin 2) (z : Fin 1) (k : Fin 320) (s : Fin 1024), y = ix4 g z k s := ⟨y 0, y 1, y 2, y 3, by idx_ext⟩
  obtain rfl : z = 0 := Subsingleton.elim _ _
  refine (out6_apply _ _ _ _ g k s).trans ((bdist_eq V c t g k s).trans ?_)
  congr 1 <;> apply Fin.ext <;> blk_simp [idx0_6] <;> simp [batch]

/-- The encodings' array. -/
theorem arr5 : (dat0 V c).arrAt 5 cfg0.N = fun y => aenc V c (y 0) (y 1) (y 2) (y 3) := by
  refine (dat0 V c).arrAt_eq_of_covers 5 _ (by decide +kernel) fun t hf y => ?_
  blk_simp
  rw [after0_5]
  obtain ⟨g, z, k, s, rfl⟩ : ∃ (g : Fin 2) (z : Fin 1) (k : Fin 320) (s : Fin 1024), y = ix4 g z k s := ⟨y 0, y 1, y 2, y 3, by idx_ext⟩
  obtain rfl : z = 0 := Subsingleton.elim _ _
  refine (out5_apply _ _ _ _ g k s).trans ((benc_eq V c t g k s).trans ?_)
  congr 1 <;> apply Fin.ext <;> blk_simp [idx0_5] <;> simp [batch]

/-- The counts' array: a batch entry's encodings summed over the positions. -/
theorem arr7 : (dat0 V c).arrAt 7 cfg0.N = fun y => ∑ s, aenc V c (y 1) (y 0) (y 2) s := by
  refine (dat0 V c).arrAt_eq_of_covers 7 _ (by decide +kernel) fun t hf y => ?_
  blk_simp
  rw [after0_7]
  obtain ⟨z, g, k, rfl⟩ : ∃ (z : Fin 1) (g : Fin 2) (k : Fin 320), y = ix3 z g k := ⟨y 0, y 1, y 2, by idx_ext⟩
  obtain rfl : z = 0 := Subsingleton.elim _ _
  refine (out7_apply _ _ _ _ g k).trans (Finset.sum_congr rfl fun s _ => (benc_eq V c t g k s).trans ?_)
  congr 1 <;> apply Fin.ext <;> blk_simp [idx0_7] <;> simp [batch]

/-- A quantized entry: a mixture of the codevectors of the group its column is in. -/
def aquant (i : Fin 16) (s : Fin 1024) (n : Fin 256) : EReal :=
  if h : n.val < 128 then mix2 (fun k => aenc V c 0 i k s) (fun k d => V c main_arg3 (ix3 0 k d)) ⟨n.val, h⟩
  else mix2 (fun k => aenc V c 1 i k s) (fun k d => V c main_arg3 (ix3 1 k d)) ⟨n.val - 128, by omega⟩

/-- At a point the body's quantized rows are its batch entry's. -/
theorem bquant_eq (t : Fin grid0.N) (s : Fin 1024) (n : Fin 256) :
    out0_4 (iblk0 V c 0 t) (iblk0 V c 1 t) (iblk0 V c 2 t) (iblk0 V c 3 t) (ix3 0 s n) = aquant V c (batch t) s n := by
  unfold aquant
  split
  · next h =>
    refine (out4_0 _ _ _ _ s ⟨n.val, h⟩).trans ?_
    simp only [benc_eq, read3]
  · next h =>
    have hn : n = ⟨128 + (⟨n.val - 128, by omega⟩ : Fin 128).val, by simp; omega⟩ := by apply Fin.ext; simp; omega
    refine (congrArg (fun n => out0_4 _ _ _ _ (ix3 0 s n)) hn).trans ((out4_1 _ _ _ _ s ⟨n.val - 128, by omega⟩).trans ?_)
    simp only [benc_eq, read3]

/-- The quantized rows' array. -/
theorem arr4 : (dat0 V c).arrAt 4 cfg0.N = fun y => aquant V c (y 0) (y 1) (y 2) := by
  refine (dat0 V c).arrAt_eq_of_covers 4 _ (by decide +kernel) fun t hf y => ?_
  blk_simp
  rw [after0_4]
  obtain ⟨z, s, n, rfl⟩ : ∃ (z : Fin 1) (s : Fin 1024) (n : Fin 256), y = ix3 z s n := ⟨y 0, y 1, y 2, by idx_ext⟩
  obtain rfl : z = 0 := Subsingleton.elim _ _
  refine (bquant_eq V c t s n).trans ?_
  congr 1 <;> apply Fin.ext <;> blk_simp [idx0_4] <;> simp [batch]

/-- A count the second kernel is launched on. -/
def acount (i : Fin 16) (g : Fin 2) (k : Fin 320) : EReal := V c main_v1_3 (ix3 i g k)

/-- The second kernel's input block is the counts' array. -/
theorem read_counts (t : Fin grid1.N) (i : Fin 16) (g : Fin 2) (k : Fin 320) :
    (iblk1 V c 0 t : Vec Ideal S16x2x320 .f32) (ix3 i g k) = acount V c i g k := by
  blk_simp [iblk1]
  refine congrArg (V c main_v1_3) ?_
  funext a
  apply Fin.ext
  blk_simp [idx1_0]
  fin_cases a <;> simp

/-- The second kernel's result array: the perplexity of the counts over every batch entry. -/
theorem arr1 : (dat1 V c).arrAt 1 cfg1.N
    = fun _ => perp fun g k => (∑ i, acount V c i g k) * Ideal.ofBits .f32 0x38800000#32 := by
  refine (dat1 V c).arrAt_eq_of_covers 1 _ (by decide +kernel) fun t hf y => ?_
  blk_simp
  rw [after1_1]
  obtain rfl : y = ix2 0 0 := by
    funext a
    match a with
    | ⟨0, _⟩ => exact Subsingleton.elim (α := Fin 1) _ _
    | ⟨1, _⟩ => exact Subsingleton.elim (α := Fin 1) _ _
  refine (out11_apply _).trans ?_
  simp only [read_counts]

end Cert.KernelIdeal.Hand

end
-- ==== Proof.KernelValue.lean ====
/- The kernel's four results from its arguments, where these are finite. -/
module

public import proofs.«01_k».proof.Proof.KernelArrays

@[expose] public section

noncomputable section

namespace Cert.KernelIdeal.Hand

open Cert.KernelIdeal Cert.KernelIdeal.Gen Cert.Hand Idealize.ShloMosaic Idealize.ShloMosaic.TcCoe
open Idealize.SL Idealize.SL.Sem Idealize.ShloMosaic.Pipeline

variable (m : (ℓ : Loc nD τ sig) → Buf (Elt Ideal) ℓ) (ρ : Dev nD → PrngReg) (c : Dev nD)

/-- The four arguments as functions of indices. -/
def argX (i : Fin 16) (s : Fin 1024) (t : Fin 512) : EReal := m ((c : Thread nD τ).loc main_arg0) (ix3 i s t)
def argW (t : Fin 512) (n : Fin 256) : EReal := m ((c : Thread nD τ).loc main_arg1) (ix2 t n)
def argB (n : Fin 256) : EReal := m ((c : Thread nD τ).loc main_arg2) (ix1 n)
def argC (g : Fin 2) (k : Fin 320) (d : Fin 128) : EReal := m ((c : Thread nD τ).loc main_arg3) (ix3 g k d)

/-- The first kernel is launched on the bias as a column. -/
theorem entry_bias (n : Fin 256) : V1 m ρ c main_v0 (ix2 n 0) = argB m c n := by
  have h : W1 m ρ c (Proc.devRef .tc main_v0) = shapeCast S256x1 (m ((c : Thread nD τ).loc main_arg2)) shapeCasts_S256_S256x1 := by
    after_results_simp
    rfl
  show W1 m ρ c (Proc.devRef .tc main_v0) (ix2 n 0) = _
  rw [h]
  unfold argB
  pointwise

/-- The hidden rows of the first kernel. -/
theorem arow_eq (i : Fin 16) (s : Fin 1024) : arow (V1 m ρ) c i s = row (argX m c i s) (argW m c) (argB m c) := by
  have h0 : (fun t : Fin 512 => V1 m ρ c main_arg0 (ix3 i s t)) = argX m c i s := funext fun t =>
    congrFun (W1_args m ρ c main_arg0 (by decide)) _
  have h1 : (fun (t : Fin 512) (n : Fin 256) => V1 m ρ c main_arg1 (ix2 t n)) = argW m c := funext fun t => funext fun n =>
    congrFun (W1_args m ρ c main_arg1 (by decide)) _
  have h2 : (fun n : Fin 256 => V1 m ρ c main_v0 (ix2 n 0)) = argB m c := funext (entry_bias m ρ c)
  exact congr (congr (congrArg row h0) h1) h2

/-- The codevectors it is launched on. -/
theorem entry_codes (g : Fin 2) : (fun (k : Fin 320) (d : Fin 128) => V1 m ρ c main_arg3 (ix3 g k d)) = argC m c g :=
  funext fun k => funext fun d => congrFun (W1_args m ρ c main_arg3 (by decide)) (ix3 g k d)

/-- Every argument is finite. -/
structure Finite : Prop where
  x : ∀ i s t, IsReal (argX m c i s t)
  W : ∀ t n, IsReal (argW m c t n)
  b : ∀ n, IsReal (argB m c n)
  cv : ∀ g k d, IsReal (argC m c g k d)

variable {m c} (h : Finite m c)
include h

/-- The kernel's distances are the squared distances. -/
theorem adist_eq (g : Fin 2) (i : Fin 16) (k : Fin 320) (s : Fin 1024) :
    adist (V1 m ρ) c g i k s = distOf (argX m c) (argW m c) (argB m c) (argC m c) g i s k := by
  unfold adist distOf
  rw [arow_eq, congrFun (entry_codes m ρ c g) k]
  exact expd_eq (fun d => row_isReal (h.x i s) h.W h.b _) (h.cv g k)

/-- The kernel's encodings. -/
theorem aenc_eq (g : Fin 2) (i : Fin 16) (k : Fin 320) (s : Fin 1024) :
    aenc (V1 m ρ) c g i k s = encOf (argX m c) (argW m c) (argB m c) (argC m c) g i s k := by
  unfold aenc encOf
  exact congrArg (fun D => hot D k) (funext fun j => adist_eq ρ h g i j s)

/-- The kernel's quantized rows. -/
theorem aquant_eq (i : Fin 16) (s : Fin 1024) (n : Fin 256) :
    aquant (V1 m ρ) c i s n = quantOf (argX m c) (argW m c) (argB m c) (argC m c) i s n := by
  unfold aquant quantOf
  have e : ∀ g, (fun k => aenc (V1 m ρ) c g i k s) = encOf (argX m c) (argW m c) (argB m c) (argC m c) g i s :=
    fun g => funext fun k => aenc_eq ρ h g i k s
  rw [e, e, entry_codes m ρ c 0, entry_codes m ρ c 1]
  split
  · exact mix2_eq fun k => h.cv 0 k _
  · exact mix2_eq fun k => h.cv 1 k _

/-- Result 1, the quantized rows. -/
theorem value_quant (i : Fin 16) (s : Fin 1024) (n : Fin 256) :
    W4 m ρ c (Proc.devRef .tc main_v1_0) (ix3 i s n) = quantOf (argX m c) (argW m c) (argB m c) (argC m c) i s n := by
  have e : W4 m ρ c (Proc.devRef .tc main_v1_0) = (dat0 (V1 m ρ) c).arrAt 4 cfg0.N :=
    (W4_of m ρ c main_v1_0 (by decide)).trans ((W3_of m ρ c main_v1_0 (by decide)).trans (W2_arr m ρ c 4))
  rw [e, arr4]
  exact aquant_eq ρ h i s n

/-- Result 2, the encodings. -/
theorem value_enc (g : Fin 2) (i : Fin 16) (s : Fin 1024) (k : Fin 320) :
    W4 m ρ c (Proc.devRef .tc main_v3) (ix4 g i s k) = encOf (argX m c) (argW m c) (argB m c) (argC m c) g i s k := by
  have e : W3 m ρ c (Proc.devRef .tc main_v1_1) = (dat0 (V1 m ρ) c).arrAt 5 cfg0.N :=
    (W3_of m ρ c main_v1_1 (by decide)).trans (W2_arr m ρ c 5)
  have t : W4 m ρ c (Proc.devRef .tc main_v3)
      = transpose S2x16x1024x320 [0, 1, 3, 2] (W3 m ρ c (Proc.devRef .tc main_v1_1)) transposes_S2x16x320x1024_S2x16x1024x320_0_1_3_2 := by
    after_results_simp
  rw [t, e, arr5]
  pointwise
  exact aenc_eq ρ h g i k s

/-- Result 3, the distances. -/
theorem value_dist (g : Fin 2) (i : Fin 16) (s : Fin 1024) (k : Fin 320) :
    W4 m ρ c (Proc.devRef .tc main_v4) (ix4 g i s k) = distOf (argX m c) (argW m c) (argB m c) (argC m c) g i s k := by
  have e : W3 m ρ c (Proc.devRef .tc main_v1_2) = (dat0 (V1 m ρ) c).arrAt 6 cfg0.N :=
    (W3_of m ρ c main_v1_2 (by decide)).trans (W2_arr m ρ c 6)
  have t : W4 m ρ c (Proc.devRef .tc main_v4)
      = transpose S2x16x1024x320 [0, 1, 3, 2] (W3 m ρ c (Proc.devRef .tc main_v1_2)) transposes_S2x16x320x1024_S2x16x1024x320_0_1_3_2 := by
    after_results_simp
  rw [t, e, arr6]
  pointwise
  exact adist_eq ρ h g i k s

/-- A count of the first kernel. -/
theorem acount_eq (i : Fin 16) (g : Fin 2) (k : Fin 320) :
    acount (V2 m ρ) c i g k = ∑ s, encOf (argX m c) (argW m c) (argB m c) (argC m c) g i s k := by
  have e : W2 m ρ c (Proc.devRef .tc main_v1_3) = (dat0 (V1 m ρ) c).arrAt 7 cfg0.N := W2_arr m ρ c 7
  have t : (∑ s, aenc (V1 m ρ) c g i k s) = ∑ s, encOf (argX m c) (argW m c) (argB m c) (argC m c) g i s k :=
    Finset.sum_congr rfl fun s _ => aenc_eq ρ h g i k s
  exact (congrFun (e.trans (arr7 (V1 m ρ) c)) (ix3 i g k)).trans t

/-- Result 4, the perplexity. -/
theorem value_perp (j : S_.Idx) :
    W4 m ρ c (Proc.devRef .tc main_v5) j = perpOf (argX m c) (argW m c) (argB m c) (argC m c) := by
  have e : W3 m ρ c (Proc.devRef .tc main_v2) = (dat1 (V2 m ρ) c).arrAt 1 cfg1.N := W3_arr m ρ c 1
  have t : W4 m ρ c (Proc.devRef .tc main_v5) = shapeCast S_ (W3 m ρ c (Proc.devRef .tc main_v2)) shapeCasts_S1x1_S_ := by
    after_results_simp
    rfl
  rw [t, e, arr1]
  pointwise
  simp only [acount_eq ρ h, scale_eq]
  rfl

end Cert.KernelIdeal.Hand

end
-- ==== Proof.ReferenceArgmin.lean ====
/- The reference's argmin, over the last axis of a rank-3 array: the word of the first least entry. -/
module

public import proofs.«01_k».proof.Proof.ReferenceTerm
public import proofs.«01_k».proof.Proof.First
public import Idealize.ShloMosaic.Lib.Pointwise

@[expose] public section

noncomputable section

namespace Cert.ReferenceIdeal.Hand

open Cert.ReferenceIdeal Cert.ReferenceIdeal.Gen Cert.Hand Idealize.ShloMosaic

/-- The reference's pair reducer: the first pair if its value is less, or as great with a smaller index, else the second. -/
theorem reducer_eq (a b : EReal) (i j : BitVec 32) :
    reducer_argmin_f32_i32 (F := Ideal) (a, i) (b, j)
      = (if a < b then a else b, if a < b ∨ (a = b ∧ i.toInt < j.toInt) then i else j) := by
  unfold reducer_argmin_f32_i32
  simp only [Ideal.cmpf_def, Ideal.cmp, IntOp.cmpi, IntOp.ori, IntOp.andi, Scalar.select, BitVec.slt]
  by_cases h1 : a < b <;> by_cases h2 : a = b <;> by_cases h3 : i.toInt < j.toInt <;> simp [h1, h2, h3]

/-- The reference's pair reducer keeps one of its two pairs, and the pair it keeps is below both. -/
theorem reducer_picks : Picks (reducer_argmin_f32_i32 (F := Ideal)) := by
  rintro ⟨a, i⟩ ⟨b, j⟩
  rw [reducer_eq]
  rcases lt_trichotomy a b with h | h | h
  · rw [if_pos h, if_pos (.inl h)]
    exact ⟨.inl rfl, .refl _, .inl h⟩
  · subst h
    by_cases k : i.toInt < j.toInt
    · rw [if_neg (lt_irrefl a), if_pos (.inr ⟨rfl, k⟩)]
      exact ⟨.inl rfl, .refl _, .inr ⟨rfl, k.le⟩⟩
    · rw [if_neg (lt_irrefl a), if_neg (by simp [k])]
      exact ⟨.inr rfl, .inr ⟨rfl, not_lt.1 k⟩, .refl _⟩
  · rw [if_neg h.asymm, if_neg (by simp [h.asymm, h.ne'])]
    exact ⟨.inr rfl, .inl h, .refl _⟩

/-- A fold of pairs over the last axis, started at ⊤, gives the word of a fiber's first least entry. -/
theorem reduce_first {n0 n1 n2 : Nat} (hn : n2 < 2 ^ 31) {u : Shape} (f : EReal × BitVec 32 → EReal × BitVec 32 → EReal × BitVec 32)
    (hf : Picks f) (x : FVec Ideal ⟨3, ![n0, n1, n2]⟩ .f32) (y : IVec ⟨3, ![n0, n1, n2]⟩ 32) (ix : FVec Ideal u .f32) (iy : IVec u 32)
    (h : (⟨3, ![n0, n1, n2]⟩ : Shape).ReducesTo [2] ⟨2, ![n0, n1]⟩) (hu : 0 < u.numel)
    (hy : ∀ i s k, y (ix3 i s k) = BitVec.ofNat 32 k.val) (hix : ∀ j, ix j = (⊤ : EReal)) (hiy : ∀ j, iy j = 0#32)
    (i : Fin n0) (s : Fin n1) [NeZero n2] :
    ∃ k, IsFirst (fun k => x (ix3 i s k)) k ∧ indices f x y ix iy h hu (ix2 i s) = BitVec.ofNat 32 k.val := by
  unfold indices
  rw [Ideal.argReduce_eq_reduce2, Host.reduce2_eq_foldl_fiber, hix, hiy]
  refine foldl_first hn hf (fun k => x (ix3 i s k)) _ fun q => ?_
  unfold Host.argReduceFiber
  simp only [List.mem_map, List.mem_filter, List.mem_finRange, true_and, decide_eq_true_eq]
  constructor
  · rintro ⟨n, hd, rfl⟩
    obtain ⟨k, e⟩ := (h.fiber_r3_a2 _ _).1 hd
    refine ⟨k, ?_⟩
    rw [← e]
    exact Prod.ext rfl (hy _ _ k)
  · rintro ⟨k, rfl⟩
    refine ⟨(⟨3, ![n0, n1, n2]⟩ : Shape).rowMajor (ix3 i s k), ?_, ?_⟩
    · rw [Equiv.symm_apply_apply]
      exact (h.fiber_r3_a2 _ _).2 ⟨k, rfl⟩
    · rw [Equiv.symm_apply_apply, hy]

/-- The reference's argmin: the word of each row's first least entry. -/
theorem argmin_first (d : FVec Ideal S16x1024x320 .f32) (i : Fin 16) (s : Fin 1024) :
    ∃ k, IsFirst (fun k => d (ix3 i s k)) k ∧ argmin d (ix2 i s) = BitVec.ofNat 32 k.val := by
  unfold argmin
  refine reduce_first ?_ _ ?_ _ _ _ _ _ _ ?_ ?_ ?_ i s
  · norm_num
  · exact reducer_picks
  · exact fun _ _ _ => rfl
  · exact fun _ => ofBits_inf
  · exact fun _ => rfl

/-- A sum over the middle axes of a rank-4 array. -/
theorem sum_middle {n0 n1 n2 n3 : Nat} (h : (⟨4, ![n0, n1, n2, n3]⟩ : Shape).ReducesTo [1, 2] ⟨2, ![n0, n3]⟩)
    (v : FVec Ideal ⟨4, ![n0, n1, n2, n3]⟩ .f32) (a : EReal) (g : Fin n0) (k : Fin n3) :
    Ideal.hostReduceAdd h v a (ix2 g k) = a + ∑ i : Fin n1, ∑ s : Fin n2, (v (ix4 g i s k) : EReal) := by
  unfold Ideal.hostReduceAdd
  refine congrArg (a + ·) ?_
  rw [← Fintype.sum_prod_type' fun (i : Fin n1) (s : Fin n2) => (v (ix4 g i s k) : EReal)]
  refine Finset.sum_filter_eq_sum_of_fiber _ (fun p : Fin n1 × Fin n2 => ix4 g p.1 p.2 k)
    (fun p q e => Prod.ext (congrFun e 1) (congrFun e 2)) (fun i => ?_) v
  constructor
  · intro e
    refine ⟨(i 1, i 2), ?_⟩
    have e0 := congrArg Fin.val (congrFun e 0)
    have e1 := congrArg Fin.val (congrFun e 1)
    funext x
    apply Fin.ext
    match x with
    | ⟨0, _⟩ => exact e0.symm
    | ⟨1, _⟩ => rfl
    | ⟨2, _⟩ => rfl
    | ⟨3, _⟩ => exact e1.symm
  · rintro ⟨p, rfl⟩
    funext x
    apply Fin.ext
    match x with
    | ⟨0, _⟩ => rfl
    | ⟨1, _⟩ => rfl

end Cert.ReferenceIdeal.Hand

end
-- ==== Proof.ReferenceValue.lean ====
/- The reference's four results, read at an index. -/
module

public import proofs.«01_k».proof.Proof.ReferenceArgmin
public import proofs.«01_k».proof.Proof.Spec

@[expose] public section

noncomputable section

namespace Cert.ReferenceIdeal.Hand

open Cert.ReferenceIdeal Cert.ReferenceIdeal.Gen Cert.Hand Idealize.ShloMosaic

variable (x : FVec Ideal S16x1024x512 .f32) (W : FVec Ideal S512x256 .f32) (b : FVec Ideal S256 .f32) (cv : FVec Ideal S2x320x128 .f32)

/-- The four arguments as functions of indices. -/
def argX (i : Fin 16) (s : Fin 1024) (t : Fin 512) : EReal := x (ix3 i s t)
def argW (t : Fin 512) (n : Fin 256) : EReal := W (ix2 t n)
def argB (n : Fin 256) : EReal := b (ix1 n)
def argC (g : Fin 2) (k : Fin 320) (d : Fin 128) : EReal := cv (ix3 g k d)

/-- A group's rows are the parts of `x W + b`. -/
theorem rows0_apply (i : Fin 16) (s : Fin 1024) (d : Fin 128) :
    rows0 (hidden x W b) (ix3 i s d) = part (row (argX x i s) (argW W) (argB b)) 0 d := by
  pointwise [rows0, hidden, dot_S16x1024x512_S512x256_S16x1024x256_2_0_01_1_n_n]
  have e : (⟨128 * (0 : Fin 2).val + d.val, by omega⟩ : Fin 256) = ⟨d.val, by omega⟩ := Fin.ext (by simp)
  unfold part row argX argW argB
  rw [e]

theorem rows1_apply (i : Fin 16) (s : Fin 1024) (d : Fin 128) :
    rows1 (hidden x W b) (ix3 i s d) = part (row (argX x i s) (argW W) (argB b)) 1 d := by
  pointwise [rows1, hidden, dot_S16x1024x512_S512x256_S16x1024x256_2_0_01_1_n_n]
  rfl

/-- A group's codevectors. -/
theorem codes0_apply (k : Fin 320) (d : Fin 128) : codes0 cv (ix2 k d) = argC cv 0 k d := by
  pointwise [codes0]
  rfl

theorem codes1_apply (k : Fin 320) (d : Fin 128) : codes1 cv (ix2 k d) = argC cv 1 k d := by
  pointwise [codes1]
  rfl

/-- A distance is a sum of squared differences. -/
theorem dist_apply (g : FVec Ideal S16x1024x128 .f32) (c : FVec Ideal S320x128 .f32) (i : Fin 16) (s : Fin 1024) (k : Fin 320) :
    dist g c (ix3 i s k) = sqd (fun d => g (ix3 i s d)) (fun d => c (ix2 k d)) := by
  pointwise [dist, diff]
  rfl

/-- A one-hot row of an index. -/
theorem oneHot_apply (x : IVec S16x1024 32) (i : Fin 16) (s : Fin 1024) (k k₀ : Fin 320) (hx : x (ix2 i s) = BitVec.ofNat 32 k₀.val) :
    oneHot (F := Ideal) x (ix3 i s k) = if k₀ = k then (1 : EReal) else 0 := by
  pointwise [oneHot]
  rw [hx, uitofp_eq_word (a := k₀.val) (b := k.val) (by omega) (by omega)]
  simp only [Fin.ext_iff]

/-- An encoding is one at the row's first least distance and zero elsewhere. -/
theorem enc_apply (d : FVec Ideal S16x1024x320 .f32) (i : Fin 16) (s : Fin 1024) (k : Fin 320) :
    enc d (ix3 i s k) = hot (fun k => d (ix3 i s k)) k := by
  obtain ⟨k₀, h, e⟩ := argmin_first d i s
  rw [hot_eq h]
  exact oneHot_apply (argmin d) i s k k₀ e

/-- A quantized row is its encoding times the codevectors. -/
theorem quant_apply (e : FVec Ideal S16x1024x320 .f32) (c : FVec Ideal S320x128 .f32) (i : Fin 16) (s : Fin 1024) (d : Fin 128) :
    quant e c (ix3 i s d) = mix (fun k => e (ix3 i s k)) (fun k d => c (ix2 k d)) d := by
  pointwise [quant, dot_S16x1024x320_S320x128_S16x1024x128_2_0_01_1_n_n]
  rfl

/-- The distances of each group. -/
theorem dist0_apply (i : Fin 16) (s : Fin 1024) (k : Fin 320) :
    dist0 x W b cv (ix3 i s k) = distOf (argX x) (argW W) (argB b) (argC cv) 0 i s k := by
  unfold dist0
  rw [dist_apply]
  exact congrArg₂ sqd (funext fun d => rows0_apply x W b i s d) (funext fun d => codes0_apply cv k d)

theorem dist1_apply (i : Fin 16) (s : Fin 1024) (k : Fin 320) :
    dist1 x W b cv (ix3 i s k) = distOf (argX x) (argW W) (argB b) (argC cv) 1 i s k := by
  unfold dist1
  rw [dist_apply]
  exact congrArg₂ sqd (funext fun d => rows1_apply x W b i s d) (funext fun d => codes1_apply cv k d)

/-- The encodings of each group. -/
theorem enc0_apply (i : Fin 16) (s : Fin 1024) (k : Fin 320) :
    enc (dist0 x W b cv) (ix3 i s k) = encOf (argX x) (argW W) (argB b) (argC cv) 0 i s k := by
  rw [enc_apply]
  exact congrArg (fun D => hot D k) (funext fun j => dist0_apply x W b cv i s j)

theorem enc1_apply (i : Fin 16) (s : Fin 1024) (k : Fin 320) :
    enc (dist1 x W b cv) (ix3 i s k) = encOf (argX x) (argW W) (argB b) (argC cv) 1 i s k := by
  rw [enc_apply]
  exact congrArg (fun D => hot D k) (funext fun j => dist1_apply x W b cv i s j)

/-- Two stacked groups, read at a group that is named. -/
theorem stack_apply (f : Fin 2 → EReal) (p q : FVec Ideal S16x1024x320 .f32) (g : Fin 2) (i : Fin 16) (s : Fin 1024) (k : Fin 320)
    (hp : p (ix3 i s k) = f 0) (hq : q (ix3 i s k) = f 1) : stack (lead p) (lead q) (ix4 g i s k) = f g := by
  pointwise [stack, lead]
  rw [hp, hq]
  match g with
  | 0 => rfl
  | 1 => rfl

/-- Result 1, the quantized rows. -/
theorem value_quant (i : Fin 16) (s : Fin 1024) (n : Fin 256) :
    outQuant x W b cv (ix3 i s n) = quantOf (argX x) (argW W) (argB b) (argC cv) i s n := by
  unfold outQuant quantOf
  pointwise [join]
  simp only [quant_apply, enc0_apply, enc1_apply, codes0_apply, codes1_apply]

/-- Result 2, the encodings. -/
theorem value_enc (g : Fin 2) (i : Fin 16) (s : Fin 1024) (k : Fin 320) :
    outEnc x W b cv (ix4 g i s k) = encOf (argX x) (argW W) (argB b) (argC cv) g i s k :=
  stack_apply (fun g => encOf (argX x) (argW W) (argB b) (argC cv) g i s k) _ _ g i s k (enc0_apply x W b cv i s k) (enc1_apply x W b cv i s k)

/-- Result 3, the distances. -/
theorem value_dist (g : Fin 2) (i : Fin 16) (s : Fin 1024) (k : Fin 320) :
    outDist x W b cv (ix4 g i s k) = distOf (argX x) (argW W) (argB b) (argC cv) g i s k :=
  stack_apply (fun g => distOf (argX x) (argW W) (argB b) (argC cv) g i s k) _ _ g i s k (dist0_apply x W b cv i s k) (dist1_apply x W b cv i s k)

/-- A mean encoding, clipped. -/
theorem probs_apply (e : FVec Ideal S2x16x1024x320 .f32) (g : Fin 2) (k : Fin 320) :
    probs e (ix2 g k) = clip (Ideal.div (∑ i : Fin 16, ∑ s : Fin 1024, (e (ix4 g i s k) : EReal)) (Ideal.ofBits .f32 0x46800000#32)) := by
  pointwise [probs, everywhere]
  rw [sum_middle, zero_add]
  rfl

/-- Result 4, the perplexity. -/
theorem value_perp (j : S_.Idx) : outPerp x W b cv j = perpOf (argX x) (argW W) (argB b) (argC cv) := by
  unfold outPerp perpOf
  pointwise [perplexity, everywhere]
  simp only [probs_apply, value_enc]
  rfl

end Cert.ReferenceIdeal.Hand

end
-- ==== Proof.Agree.lean ====
/- The kernel's four result arrays are the reference's, of the same arguments, where these are finite. -/
module

public import proofs.«01_k».proof.Proof.KernelValue
public import proofs.«01_k».proof.Proof.ReferenceValue

@[expose] public section

noncomputable section

namespace Cert.Agree

open Idealize.ShloMosaic Idealize.SL.Sem Cert.Hand Cert.KernelIdeal Cert.KernelIdeal.Gen
open Cert.ReferenceIdeal.Hand (outQuant outEnc outDist outPerp)

variable {m : (ℓ : Loc nD τ sig) → Buf (Elt Ideal) ℓ} (ρ : Dev nD → PrngReg) {c : Dev nD} (h : Cert.KernelIdeal.Hand.Finite m c)
include h

/-- Result 1: the kernel's quantized rows are the reference's. -/
theorem quant : W4 m ρ c (Proc.devRef .tc main_v1_0) = outQuant (F := Ideal) (m ((c.tc : Thread nD τ).loc main_arg0)) (m ((c.tc : Thread nD τ).loc main_arg1)) (m ((c.tc : Thread nD τ).loc main_arg2)) (m ((c.tc : Thread nD τ).loc main_arg3)) :=
  funext fun (y : S16x1024x256.Idx) => by
    have e : y = ix3 (y 0) (y 1) (y 2) := by idx_ext
    rw [e]
    exact (Cert.KernelIdeal.Hand.value_quant ρ h _ _ _).trans (Cert.ReferenceIdeal.Hand.value_quant (m ((c.tc : Thread nD τ).loc main_arg0)) (m ((c.tc : Thread nD τ).loc main_arg1)) (m ((c.tc : Thread nD τ).loc main_arg2)) (m ((c.tc : Thread nD τ).loc main_arg3)) _ _ _).symm

/-- Result 2: the kernel's encodings, transposed after its launches, are the reference's. -/
theorem enc : W4 m ρ c (Proc.devRef .tc main_v3) = outEnc (F := Ideal) (m ((c.tc : Thread nD τ).loc main_arg0)) (m ((c.tc : Thread nD τ).loc main_arg1)) (m ((c.tc : Thread nD τ).loc main_arg2)) (m ((c.tc : Thread nD τ).loc main_arg3)) :=
  funext fun (y : S2x16x1024x320.Idx) => by
    have e : y = ix4 (y 0) (y 1) (y 2) (y 3) := by idx_ext
    rw [e]
    exact (Cert.KernelIdeal.Hand.value_enc ρ h _ _ _ _).trans (Cert.ReferenceIdeal.Hand.value_enc (m ((c.tc : Thread nD τ).loc main_arg0)) (m ((c.tc : Thread nD τ).loc main_arg1)) (m ((c.tc : Thread nD τ).loc main_arg2)) (m ((c.tc : Thread nD τ).loc main_arg3)) _ _ _ _).symm

/-- Result 3: the kernel's distances, transposed after its launches, are the reference's. -/
theorem dist : W4 m ρ c (Proc.devRef .tc main_v4) = outDist (F := Ideal) (m ((c.tc : Thread nD τ).loc main_arg0)) (m ((c.tc : Thread nD τ).loc main_arg1)) (m ((c.tc : Thread nD τ).loc main_arg2)) (m ((c.tc : Thread nD τ).loc main_arg3)) :=
  funext fun (y : S2x16x1024x320.Idx) => by
    have e : y = ix4 (y 0) (y 1) (y 2) (y 3) := by idx_ext
    rw [e]
    exact (Cert.KernelIdeal.Hand.value_dist ρ h _ _ _ _).trans (Cert.ReferenceIdeal.Hand.value_dist (m ((c.tc : Thread nD τ).loc main_arg0)) (m ((c.tc : Thread nD τ).loc main_arg1)) (m ((c.tc : Thread nD τ).loc main_arg2)) (m ((c.tc : Thread nD τ).loc main_arg3)) _ _ _ _).symm

/-- Result 4: the kernel's perplexity is the reference's. -/
theorem perp : W4 m ρ c (Proc.devRef .tc main_v5) = outPerp (F := Ideal) (m ((c.tc : Thread nD τ).loc main_arg0)) (m ((c.tc : Thread nD τ).loc main_arg1)) (m ((c.tc : Thread nD τ).loc main_arg2)) (m ((c.tc : Thread nD τ).loc main_arg3)) :=
  funext fun (y : S_.Idx) => (Cert.KernelIdeal.Hand.value_perp ρ h y).trans (Cert.ReferenceIdeal.Hand.value_perp (m ((c.tc : Thread nD τ).loc main_arg0)) (m ((c.tc : Thread nD τ).loc main_arg1)) (m ((c.tc : Thread nD τ).loc main_arg2)) (m ((c.tc : Thread nD τ).loc main_arg3)) y).symm

end Cert.Agree

end
-- ==== Proof.Finite.lean ====
/- The precondition, read: every entry of every argument is a real number. -/
module

public import proofs.«01_k».proof.Defs
public import proofs.«01_k».proof.Proof.KernelValue

@[expose] public section

noncomputable section

namespace Cert.Pre_finite.Hand

open Idealize.ShloMosaic Cert.Hand

/-- The shape facts the precondition states. -/
theorem facts : Cert.Pre_finite.Facts where
  bcast_S_S16x1024x512 := by decide
  bcast_S_S512x256 := by decide
  bcast_S_S256 := by decide
  bcast_S_S2x320x128 := by decide

/-- A number whose absolute value compares below infinity is real. -/
theorem isReal_of_lt (a : EReal) (h : Ideal.cmp .olt (max a (-a)) (Ideal.ofBits .f32 0x7F800000#32) = 1#1) : IsReal a := by
  rw [ofBits_inf] at h
  have k : max a (-a) < ⊤ := by
    by_contra c
    simp [Ideal.cmp, c] at h
  exact ⟨fun e => by simp [e] at k, fun e => by simp [e] at k⟩

/-- Under the precondition every argument of the kernel is finite. -/
theorem finite [hPre : Cert.Pre_finite.Facts]
    {m : (ℓ : Loc Cert.KernelIdeal.nD Cert.KernelIdeal.τ Cert.KernelIdeal.sig) → Buf (Elt Ideal) ℓ} (h : Cert.Pre_KernelIdeal_finite m)
    (c : Dev Cert.KernelIdeal.nD) : Cert.KernelIdeal.Hand.Finite m c := by
  have q := h c
  exact ⟨fun i s t => isReal_of_lt _ (congrFun q.1 (ix3 i s t)), fun t n => isReal_of_lt _ (congrFun q.2.1 (ix2 t n)),
    fun n => isReal_of_lt _ (congrFun q.2.2.1 (ix1 n)), fun g k d => isReal_of_lt _ (congrFun q.2.2.2 (ix3 g k d))⟩

end Cert.Pre_finite.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.ReferenceRun
public import proofs.«01_k».proof.Proof.Agree
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged, and ends with every counter at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Hand.run m g)

/-- The kernel and the reference end with the same four results where the arguments are finite. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hp ha
  have hf := fun c => Cert.Pre_finite.Hand.finite (hPre := Cert.Pre_finite.Hand.facts) hp c
  refine ⟨_, _, _, _, Cert.KernelIdeal.Hand.run m g, ?_⟩
  refine (θ_run Cert.ReferenceIdeal.defs _ _).mono (fun r h c => ?_) (Cert.ReferenceIdeal.Hand.run m' g')
  obtain ⟨⟨h0, h1, h2, h3⟩, hargs⟩ := h c
  obtain ⟨a0, a1, a2, a3⟩ := ha c
  rw [a0, a1, a2, a3] at h0 h1 h2 h3
  exact ⟨h0.trans (Cert.Agree.quant g (hf c)).symm, h1.trans (Cert.Agree.enc g (hf c)).symm, h2.trans (Cert.Agree.dist g (hf c)).symm,
    h3.trans (Cert.Agree.perp g (hf c)).symm, hargs⟩

/-- Every claim: the kernel's and the reference's frames, the idealization, and the equality of the results. -/
theorem claim : Cert.Claim :=
  ⟨Cert.Kernel.Gen.facts, Cert.KernelIdeal.Gen.facts, Cert.ReferenceIdeal.Gen.facts, Cert.Pre_finite.Hand.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, equal⟩

end Cert.Proof

end
